-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S8x176x4096 : Shape := ⟨3, ![8, 176, 4096]⟩
abbrev S8x168x4096 : Shape := ⟨3, ![8, 168, 4096]⟩
abbrev S176x4096 : Shape := ⟨2, ![176, 4096]⟩
abbrev S168x4096 : Shape := ⟨2, ![168, 4096]⟩
abbrev S21 : Shape := ⟨1, ![21]⟩
abbrev S4 : Shape := ⟨1, ![4]⟩
abbrev S_ : Shape := ⟨0, ![]⟩
abbrev S1x176x4096 : Shape := ⟨3, ![1, 176, 4096]⟩
abbrev S1x168x4096 : Shape := ⟨3, ![1, 168, 4096]⟩
abbrev S176x256 : Shape := ⟨2, ![176, 256]⟩
abbrev S168x256 : Shape := ⟨2, ![168, 256]⟩

abbrev nBuf : Space → Nat
  | .hbm => 5
  | .vmem => 9
  | .smem => 2
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S4096x256, .f32⟩
  | .local _ .vmem, ⟨1, _⟩ => ⟨S8x176x4096, .fp8e4m3⟩
  | .local _ .vmem, ⟨2, _⟩ => ⟨S8x168x4096, .fp8e4m3⟩
  | .local _ .vmem, ⟨3, _⟩ => ⟨S8x168x4096, .fp8e4m3⟩
  | .local _ .vmem, ⟨4, _⟩ => ⟨S4096x256, .fp8e4m3⟩
  | .local _ .vmem, ⟨5, _⟩ => ⟨S176x4096, .f32⟩
  | .local _ .vmem, ⟨6, _⟩ => ⟨S168x4096, .f32⟩
  | .local _ .vmem, ⟨7, _⟩ => ⟨S168x4096, .f32⟩
  | .local _ .vmem, ⟨8, _⟩ => ⟨S4096x256, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_13 : BitVec 32 := 1#32
  let v27 : BitVec 32 := Scalar.muli v8 c1_i32_13
  let v28 : BitVec 32 := Scalar.addi c0_i32 v27
  v28.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_15 : BitVec 32 := 1#32
  let v29 : BitVec 32 := Scalar.muli v12 c1_i32_15
  let v30 : BitVec 32 := Scalar.addi c0_i32_16 v29
  v30.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_18 : BitVec 32 := 1#32
  let v31 : BitVec 32 := Scalar.muli v13 c1_i32_18
  let v32 : BitVec 32 := Scalar.addi c0_i32_19 v31
  v32.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let v52 : Index := Scalar.indexCast v17
  let c0_35 : Index := 0#32
  let c0_36 : Index := 0#32
  ![v52.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let c0_i32_41 : BitVec 32 := 0#32
  let c0_i32_42 : BitVec 32 := 0#32
  ![v17.toNat, 0, 0]
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_39 : BitVec 32 := 1#32
  let v56 : BitVec 32 := Scalar.muli v8 c1_i32_39
  let v57 : BitVec 32 := Scalar.addi c0_i32_40 v56
  v57.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let v71 : Index := Scalar.indexCast v21
  let c0_50 : Index := 0#32
  let c0_51 : Index := 0#32
  ![v71.toNat, 0, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let c0_i32_55 : BitVec 32 := 0#32
  let c0_i32_56 : BitVec 32 := 0#32
  ![v21.toNat, 0, 0]
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_53 : BitVec 32 := 1#32
  let v75 : BitVec 32 := Scalar.muli v12 c1_i32_53
  let v76 : BitVec 32 := Scalar.addi c0_i32_54 v75
  v76.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let v90 : Index := Scalar.indexCast v25
  let c0_64 : Index := 0#32
  let c0_65 : Index := 0#32
  ![v90.toNat, 0, 0]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let c0_i32_69 : BitVec 32 := 0#32
  let c0_i32_70 : BitVec 32 := 0#32
  ![v25.toNat, 0, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_67 : BitVec 32 := 1#32
  let v94 : BitVec 32 := Scalar.muli v13 c1_i32_67
  let v95 : BitVec 32 := Scalar.addi c0_i32_68 v94
  v95.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_75 : BitVec 32 := 1#32
  let v104 : BitVec 32 := Scalar.muli v12 c1_i32_75
  let v105 : BitVec 32 := Scalar.addi c0_i32_76 v104
  v105.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_83 : BitVec 32 := 1#32
  let v114 : BitVec 32 := Scalar.muli v13 c1_i32_83
  let v115 : BitVec 32 := Scalar.addi c0_i32_84 v114
  v115.toNat
def k0_dev9 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_90 : BitVec 32 := 1#32
  let v124 : BitVec 32 := Scalar.muli v8 c1_i32_90
  let v125 : BitVec 32 := Scalar.addi c0_i32_91 v124
  v125.toNat
def k0_dev10 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_98 : BitVec 32 := 1#32
  let v134 : BitVec 32 := Scalar.muli v13 c1_i32_98
  let v135 : BitVec 32 := Scalar.addi c0_i32_99 v134
  v135.toNat
def k0_dev11 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_105 : BitVec 32 := 1#32
  let v144 : BitVec 32 := Scalar.muli v8 c1_i32_105
  let v145 : BitVec 32 := Scalar.addi c0_i32_106 v144
  v145.toNat
def k0_dev12 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_112 : BitVec 32 := 1#32
  let v154 : BitVec 32 := Scalar.muli v12 c1_i32_112
  let v155 : BitVec 32 := Scalar.addi c0_i32_113 v154
  v155.toNat
def k0_off7 (d0 : Dev nD) : Fin 2 → Nat :=
  let c4_i32_128 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let c2_i32_126 : BitVec 32 := 2#32
  let v174 : BitVec 32 := Scalar.shrsi v17 c2_i32_126
  let c1_i32_127 : BitVec 32 := 1#32
  let v175 : BitVec 32 := Scalar.andi v174 c1_i32_127
  let v176 : BitVec 32 := Scalar.muli c4_i32_128 v175
  let c2_i32_129 : BitVec 32 := 2#32
  let c1_i32_124 : BitVec 32 := 1#32
  let v172 : BitVec 32 := Scalar.shrsi v17 c1_i32_124
  let c1_i32_125 : BitVec 32 := 1#32
  let v173 : BitVec 32 := Scalar.andi v172 c1_i32_125
  let v177 : BitVec 32 := Scalar.muli c2_i32_129 v173
  let v178 : BitVec 32 := Scalar.addi v176 v177
  let c1_i32_123 : BitVec 32 := 1#32
  let v171 : BitVec 32 := Scalar.andi v17 c1_i32_123
  let v179 : BitVec 32 := Scalar.xori v171 v173
  let v180 : BitVec 32 := Scalar.addi v178 v179
  let c512_i32 : BitVec 32 := 512#32
  let v188 : BitVec 32 := Scalar.muli v180 c512_i32
  let c0_i32_134 : BitVec 32 := 0#32
  let v189 : BitVec 32 := Scalar.addi v188 c0_i32_134
  let v190 : Index := Scalar.indexCast v189
  let c0_135 : Index := 0#32
  ![v190.toNat, 0]
def k0_off8 (d0 : Dev nD) : Fin 2 → Nat :=
  let c4_i32_141 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let c1_i32_137 : BitVec 32 := 1#32
  let v193 : BitVec 32 := Scalar.shrsi v21 c1_i32_137
  let c1_i32_138 : BitVec 32 := 1#32
  let v194 : BitVec 32 := Scalar.andi v193 c1_i32_138
  let v197 : BitVec 32 := Scalar.muli c4_i32_141 v194
  let c2_i32_142 : BitVec 32 := 2#32
  let c1_i32_136 : BitVec 32 := 1#32
  let v192 : BitVec 32 := Scalar.andi v21 c1_i32_136
  let v198 : BitVec 32 := Scalar.muli c2_i32_142 v192
  let v199 : BitVec 32 := Scalar.addi v197 v198
  let c2_i32_139 : BitVec 32 := 2#32
  let v195 : BitVec 32 := Scalar.shrsi v21 c2_i32_139
  let c1_i32_140 : BitVec 32 := 1#32
  let v196 : BitVec 32 := Scalar.andi v195 c1_i32_140
  let v200 : BitVec 32 := Scalar.xori v196 v192
  let v201 : BitVec 32 := Scalar.addi v199 v200
  let c512_i32_148 : BitVec 32 := 512#32
  let v209 : BitVec 32 := Scalar.muli v201 c512_i32_148
  let c176_i32_149 : BitVec 32 := 176#32
  let v210 : BitVec 32 := Scalar.addi v209 c176_i32_149
  let v211 : Index := Scalar.indexCast v210
  let c0_150 : Index := 0#32
  ![v211.toNat, 0]
def k0_off9 (d0 : Dev nD) : Fin 2 → Nat :=
  let c4_i32_156 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let c1_i32_151 : BitVec 32 := 1#32
  let v213 : BitVec 32 := Scalar.andi v25 c1_i32_151
  let v218 : BitVec 32 := Scalar.muli c4_i32_156 v213
  let c2_i32_157 : BitVec 32 := 2#32
  let c2_i32_154 : BitVec 32 := 2#32
  let v216 : BitVec 32 := Scalar.shrsi v25 c2_i32_154
  let c1_i32_155 : BitVec 32 := 1#32
  let v217 : BitVec 32 := Scalar.andi v216 c1_i32_155
  let v219 : BitVec 32 := Scalar.muli c2_i32_157 v217
  let v220 : BitVec 32 := Scalar.addi v218 v219
  let c1_i32_152 : BitVec 32 := 1#32
  let v214 : BitVec 32 := Scalar.shrsi v25 c1_i32_152
  let c1_i32_153 : BitVec 32 := 1#32
  let v215 : BitVec 32 := Scalar.andi v214 c1_i32_153
  let v221 : BitVec 32 := Scalar.xori v215 v217
  let v222 : BitVec 32 := Scalar.addi v220 v221
  let c512_i32_163 : BitVec 32 := 512#32
  let v230 : BitVec 32 := Scalar.muli v222 c512_i32_163
  let c344_i32_164 : BitVec 32 := 344#32
  let v231 : BitVec 32 := Scalar.addi v230 c344_i32_164
  let v232 : Index := Scalar.indexCast v231
  let c0_165 : Index := 0#32
  ![v232.toNat, 0]
def k0_off10 (d0 : Dev nD) (c1_i32_166 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let v234 : BitVec 32 := Scalar.xori v17 c1_i32_166
  let c0_i32_171 : BitVec 32 := 0#32
  let c0_i32_172 : BitVec 32 := 0#32
  ![v234.toNat, 0, 0]
def k0_dev13 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_178 : BitVec 32 := 1#32
  let v244 : BitVec 32 := Scalar.muli v12 c1_i32_178
  let v245 : BitVec 32 := Scalar.addi c0_i32_179 v244
  v245.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_187 : BitVec 32 := 1#32
  let v255 : BitVec 32 := Scalar.muli v13 c1_i32_187
  let v256 : BitVec 32 := Scalar.addi c0_i32_188 v255
  v256.toNat
def k0_off11 (d0 : Dev nD) (c1_i32_193 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let v265 : BitVec 32 := Scalar.xori v21 c1_i32_193
  let c0_i32_198 : BitVec 32 := 0#32
  let c0_i32_199 : BitVec 32 := 0#32
  ![v265.toNat, 0, 0]
def k0_dev15 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_204 : BitVec 32 := 1#32
  let v275 : BitVec 32 := Scalar.muli v13 c1_i32_204
  let v276 : BitVec 32 := Scalar.addi c0_i32_205 v275
  v276.toNat
def k0_dev16 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_212 : BitVec 32 := 1#32
  let v286 : BitVec 32 := Scalar.muli v8 c1_i32_212
  let v287 : BitVec 32 := Scalar.addi c0_i32_213 v286
  v287.toNat
def k0_off12 (d0 : Dev nD) (c1_i32_218 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let v296 : BitVec 32 := Scalar.xori v25 c1_i32_218
  let c0_i32_223 : BitVec 32 := 0#32
  let c0_i32_224 : BitVec 32 := 0#32
  ![v296.toNat, 0, 0]
def k0_dev17 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_229 : BitVec 32 := 1#32
  let v306 : BitVec 32 := Scalar.muli v8 c1_i32_229
  let v307 : BitVec 32 := Scalar.addi c0_i32_230 v306
  v307.toNat
def k0_dev18 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_237 : BitVec 32 := 1#32
  let v317 : BitVec 32 := Scalar.muli v12 c1_i32_237
  let v318 : BitVec 32 := Scalar.addi c0_i32_238 v317
  v318.toNat
def k0_off13 (d0 : Dev nD) (c1_i32_243 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let v327 : BitVec 32 := Scalar.xori v17 c1_i32_243
  let v338 : Index := Scalar.indexCast v327
  let c0_251 : Index := 0#32
  let c0_252 : Index := 0#32
  ![v338.toNat, 0, 0]
def k0_off14 (d0 : Dev nD) (c1_i32_243 : BitVec 32) : Fin 2 → Nat :=
  let c4_i32_249 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c2_i32_6 : BitVec 32 := 2#32
  let v14 : BitVec 32 := Scalar.muli c2_i32_6 v4
  let v15 : BitVec 32 := Scalar.addi v6 v14
  let c4_i32_7 : BitVec 32 := 4#32
  let c2_i32 : BitVec 32 := 2#32
  let v7 : BitVec 32 := Scalar.shrsi v2 c2_i32
  let v16 : BitVec 32 := Scalar.muli c4_i32_7 v7
  let v17 : BitVec 32 := Scalar.addi v15 v16
  let v327 : BitVec 32 := Scalar.xori v17 c1_i32_243
  let c2_i32_247 : BitVec 32 := 2#32
  let v331 : BitVec 32 := Scalar.shrsi v327 c2_i32_247
  let c1_i32_248 : BitVec 32 := 1#32
  let v332 : BitVec 32 := Scalar.andi v331 c1_i32_248
  let v333 : BitVec 32 := Scalar.muli c4_i32_249 v332
  let c2_i32_250 : BitVec 32 := 2#32
  let c1_i32_245 : BitVec 32 := 1#32
  let v329 : BitVec 32 := Scalar.shrsi v327 c1_i32_245
  let c1_i32_246 : BitVec 32 := 1#32
  let v330 : BitVec 32 := Scalar.andi v329 c1_i32_246
  let v334 : BitVec 32 := Scalar.muli c2_i32_250 v330
  let v335 : BitVec 32 := Scalar.addi v333 v334
  let c1_i32_244 : BitVec 32 := 1#32
  let v328 : BitVec 32 := Scalar.andi v327 c1_i32_244
  let v336 : BitVec 32 := Scalar.xori v328 v330
  let v337 : BitVec 32 := Scalar.addi v335 v336
  let c512_i32_256 : BitVec 32 := 512#32
  let v345 : BitVec 32 := Scalar.muli v337 c512_i32_256
  let c0_i32_257 : BitVec 32 := 0#32
  let v346 : BitVec 32 := Scalar.addi v345 c0_i32_257
  let v347 : Index := Scalar.indexCast v346
  let c0_258 : Index := 0#32
  ![v347.toNat, 0]
def k0_off15 (d0 : Dev nD) (c1_i32_259 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let v349 : BitVec 32 := Scalar.xori v21 c1_i32_259
  let v360 : Index := Scalar.indexCast v349
  let c0_267 : Index := 0#32
  let c0_268 : Index := 0#32
  ![v360.toNat, 0, 0]
def k0_off16 (d0 : Dev nD) (c1_i32_259 : BitVec 32) : Fin 2 → Nat :=
  let c4_i32_265 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c2_i32_8 : BitVec 32 := 2#32
  let c2_i32 : BitVec 32 := 2#32
  let v7 : BitVec 32 := Scalar.shrsi v2 c2_i32
  let v18 : BitVec 32 := Scalar.muli c2_i32_8 v7
  let v19 : BitVec 32 := Scalar.addi v4 v18
  let c4_i32_9 : BitVec 32 := 4#32
  let c1_i32_1 : BitVec 32 := 1#32
  let v5 : BitVec 32 := Scalar.andi v3 c1_i32_1
  let v6 : BitVec 32 := Scalar.xori v5 v4
  let v20 : BitVec 32 := Scalar.muli c4_i32_9 v6
  let v21 : BitVec 32 := Scalar.addi v19 v20
  let v349 : BitVec 32 := Scalar.xori v21 c1_i32_259
  let c1_i32_261 : BitVec 32 := 1#32
  let v351 : BitVec 32 := Scalar.shrsi v349 c1_i32_261
  let c1_i32_262 : BitVec 32 := 1#32
  let v352 : BitVec 32 := Scalar.andi v351 c1_i32_262
  let v355 : BitVec 32 := Scalar.muli c4_i32_265 v352
  let c2_i32_266 : BitVec 32 := 2#32
  let c1_i32_260 : BitVec 32 := 1#32
  let v350 : BitVec 32 := Scalar.andi v349 c1_i32_260
  let v356 : BitVec 32 := Scalar.muli c2_i32_266 v350
  let v357 : BitVec 32 := Scalar.addi v355 v356
  let c2_i32_263 : BitVec 32 := 2#32
  let v353 : BitVec 32 := Scalar.shrsi v349 c2_i32_263
  let c1_i32_264 : BitVec 32 := 1#32
  let v354 : BitVec 32 := Scalar.andi v353 c1_i32_264
  let v358 : BitVec 32 := Scalar.xori v354 v350
  let v359 : BitVec 32 := Scalar.addi v357 v358
  let c512_i32_272 : BitVec 32 := 512#32
  let v367 : BitVec 32 := Scalar.muli v359 c512_i32_272
  let c176_i32_273 : BitVec 32 := 176#32
  let v368 : BitVec 32 := Scalar.addi v367 c176_i32_273
  let v369 : Index := Scalar.indexCast v368
  let c0_274 : Index := 0#32
  ![v369.toNat, 0]
def k0_off17 (d0 : Dev nD) (c1_i32_275 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let v371 : BitVec 32 := Scalar.xori v25 c1_i32_275
  let v382 : Index := Scalar.indexCast v371
  let c0_283 : Index := 0#32
  let c0_284 : Index := 0#32
  ![v382.toNat, 0, 0]
def k0_off18 (d0 : Dev nD) (c1_i32_275 : BitVec 32) : Fin 2 → Nat :=
  let c4_i32_281 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c2_i32_10 : BitVec 32 := 2#32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v22 : BitVec 32 := Scalar.muli c2_i32_10 v6
  let v23 : BitVec 32 := Scalar.addi v7 v22
  let c4_i32_11 : BitVec 32 := 4#32
  let v24 : BitVec 32 := Scalar.muli c4_i32_11 v4
  let v25 : BitVec 32 := Scalar.addi v23 v24
  let v371 : BitVec 32 := Scalar.xori v25 c1_i32_275
  let c1_i32_276 : BitVec 32 := 1#32
  let v372 : BitVec 32 := Scalar.andi v371 c1_i32_276
  let v377 : BitVec 32 := Scalar.muli c4_i32_281 v372
  let c2_i32_282 : BitVec 32 := 2#32
  let c2_i32_279 : BitVec 32 := 2#32
  let v375 : BitVec 32 := Scalar.shrsi v371 c2_i32_279
  let c1_i32_280 : BitVec 32 := 1#32
  let v376 : BitVec 32 := Scalar.andi v375 c1_i32_280
  let v378 : BitVec 32 := Scalar.muli c2_i32_282 v376
  let v379 : BitVec 32 := Scalar.addi v377 v378
  let c1_i32_277 : BitVec 32 := 1#32
  let v373 : BitVec 32 := Scalar.shrsi v371 c1_i32_277
  let c1_i32_278 : BitVec 32 := 1#32
  let v374 : BitVec 32 := Scalar.andi v373 c1_i32_278
  let v380 : BitVec 32 := Scalar.xori v374 v376
  let v381 : BitVec 32 := Scalar.addi v379 v380
  let c512_i32_288 : BitVec 32 := 512#32
  let v389 : BitVec 32 := Scalar.muli v381 c512_i32_288
  let c344_i32_289 : BitVec 32 := 344#32
  let v390 : BitVec 32 := Scalar.addi v389 c344_i32_289
  let v391 : Index := Scalar.indexCast v390
  let c0_290 : Index := 0#32
  ![v391.toNat, 0]
def k0_dev19 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_302 : BitVec 32 := 1#32
  let v403 : BitVec 32 := Scalar.muli v13 c1_i32_302
  let v404 : BitVec 32 := Scalar.addi c0_i32_303 v403
  v404.toNat
def k0_dev20 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_319 : BitVec 32 := 1#32
  let v423 : BitVec 32 := Scalar.muli v8 c1_i32_319
  let v424 : BitVec 32 := Scalar.addi c0_i32_320 v423
  v424.toNat
def k0_dev21 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_336 : BitVec 32 := 1#32
  let v443 : BitVec 32 := Scalar.muli v12 c1_i32_336
  let v444 : BitVec 32 := Scalar.addi c0_i32_337 v443
  v444.toNat
def k0_dev22 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v13 : BitVec 32 := Scalar.xori v2 c4_i32_5
  let c1_i32_401 : BitVec 32 := 1#32
  let v529 : BitVec 32 := Scalar.muli v13 c1_i32_401
  let v530 : BitVec 32 := Scalar.addi c0_i32_402 v529
  v530.toNat
def k0_dev23 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.xori v2 c1_i32_2
  let c1_i32_418 : BitVec 32 := 1#32
  let v549 : BitVec 32 := Scalar.muli v8 c1_i32_418
  let v550 : BitVec 32 := Scalar.addi c0_i32_419 v549
  v550.toNat
def k0_dev24 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.andi v2 c4_i32
  let c3_i32_4 : BitVec 32 := 3#32
  let c3_i32_3 : BitVec 32 := 3#32
  let v10 : BitVec 32 := Scalar.andi v2 c3_i32_3
  let v11 : BitVec 32 := Scalar.subi c3_i32_4 v10
  let v12 : BitVec 32 := Scalar.ori v9 v11
  let c1_i32_435 : BitVec 32 := 1#32
  let v569 : BitVec 32 := Scalar.muli v12 c1_i32_435
  let v570 : BitVec 32 := Scalar.addi c0_i32_436 v569
  v570.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Topo.lean ====
/-
The eight devices as a cube, the slots of the three gather buffers, and the order of the exchange.

The rows of `x` that a device holds are cut into three bands. Each band `r` is gathered on its own, by recursive doubling
along the cube's three axes in an order that starts at another axis for each band. Slot `slot r c` of band `r`'s buffer is
where device `c`'s own rows go, on every device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.BandGather

open Cert.KernelIdeal Cert.KernelIdeal.Gen
open Idealize.ShloMosaic
open Idealize.ShloMosaic.TcCoe
open Idealize.SL Idealize.SL.Sem

/-! ## The cube -/

set_option backward.proofsInPublic true in
/-- The neighbour of a device along axis `a` of the cube. -/
def nbr (a : Fin 3) (c : Dev nD) : Dev nD :=
  match a with
  | 0 => (![1, 0, 3, 2, 5, 4, 7, 6] : Fin 8 → Fin 8) c
  | 1 => (![3, 2, 1, 0, 7, 6, 5, 4] : Fin 8 → Fin 8) c
  | 2 => (![4, 5, 6, 7, 0, 1, 2, 3] : Fin 8 → Fin 8) c

set_option backward.proofsInPublic true in
/-- The slot of band `r`'s buffer that holds device `c`'s rows. -/
def slot (r : Fin 3) (c : Dev nD) : Fin 8 :=
  match r with
  | 0 => (![0, 1, 3, 2, 4, 5, 7, 6] : Fin 8 → Fin 8) c
  | 1 => (![0, 4, 5, 1, 2, 6, 7, 3] : Fin 8 → Fin 8) c
  | 2 => (![0, 2, 6, 4, 1, 3, 7, 5] : Fin 8 → Fin 8) c

set_option backward.proofsInPublic true in
/-- The device whose rows slot `σ` of band `r`'s buffer holds. -/
def origin (r : Fin 3) (σ : Fin 8) : Dev nD :=
  match r with
  | 0 => (![0, 1, 3, 2, 4, 5, 7, 6] : Fin 8 → Fin 8) σ
  | 1 => (![0, 3, 4, 7, 1, 2, 5, 6] : Fin 8 → Fin 8) σ
  | 2 => (![0, 4, 1, 5, 3, 7, 2, 6] : Fin 8 → Fin 8) σ

set_option backward.proofsInPublic true in
/-- The slot that differs from device `c`'s own by the bits of `f`. -/
def slotF (r : Fin 3) (c : Dev nD) (f : Fin 8) : Fin 8 := slot r c ^^^ f

/-- A transfer of the exchange: a band and the transfer's number in it. -/
abbrev Snd : Type := Fin 3 × Fin 7

/-- Which of the sender's slots transfer number `k` carries, as a difference from the sender's own. -/
def srcFlip : Fin 7 → Fin 8 := ![0, 0, 0, 1, 1, 2, 3]
/-- The slot it fills, as a difference from the receiver's own. -/
def dstFlip : Fin 7 → Fin 8 := ![1, 2, 4, 3, 5, 6, 7]
/-- The axis along which a transfer goes. -/
def dirOf (i : Snd) : Fin 3 := i.1 + (![0, 1, 2, 1, 2, 2, 2] : Fin 7 → Fin 3) i.2
/-- The device at the other end of a transfer; the same for the sender and the receiver. -/
def peer (i : Snd) (c : Dev nD) : Dev nD := nbr (dirOf i) c

/-- The transfers' place in the order in which a device issues them. -/
def pos (i : Snd) : ℕ := (![![0, 3, 6, 9, 10, 15, 18], ![1, 4, 7, 11, 12, 16, 19], ![2, 5, 8, 13, 14, 17, 20]] : Fin 3 → Fin 7 → ℕ) i.1 i.2
/-- Their place in the order in which slots fill: a device's own three slots are numbers 0, 1, 2. -/
def arr (r : Fin 3) (f : Fin 8) : ℕ := 3 * f.val + r.val

theorem nbr_nbr (a : Fin 3) (c : Dev nD) : nbr a (nbr a c) = c := by revert a c; decide
theorem peer_peer (i : Snd) (c : Dev nD) : peer i (peer i c) = c := nbr_nbr _ _
theorem origin_slot (r : Fin 3) (c : Dev nD) : origin r (slot r c) = c := by revert r c; decide
theorem slotF_peer (i : Snd) (c : Dev nD) : slotF i.1 (peer i c) (dstFlip i.2) = slotF i.1 c (srcFlip i.2) := by revert i c; decide
theorem slotF_zero (r : Fin 3) (c : Dev nD) : slotF r c 0 = slot r c := by revert r c; decide

/-- A device and its neighbour along an axis, as a permutation of the devices. -/
def nbrEquiv (a : Fin 3) : Dev nD ≃ Dev nD := ⟨nbr a, nbr a, nbr_nbr a, nbr_nbr a⟩

/-! ## The buffers and their slots -/

abbrev shp : Fin 3 → Shape
  | 0 => S176x4096
  | 1 => S168x4096
  | 2 => S168x4096
/-- A slot of band `r`'s buffer before its leading dimension is dropped. -/
abbrev shp1 : Fin 3 → Shape
  | 0 => S1x176x4096
  | 1 => S1x168x4096
  | 2 => S1x168x4096
abbrev bufRef : Fin 3 → Ref sig .tc
  | 0 => cc0_scratch0
  | 1 => cc0_scratch1
  | 2 => cc0_scratch2

theorem inb_slot0 (σ : Fin 8) : ∀ a, (![σ.val, 0, 0] : Fin 3 → Nat) a + S1x176x4096.size a ≤ S8x176x4096.size a := by revert σ; decide
theorem inb_slot1 (σ : Fin 8) : ∀ a, (![σ.val, 0, 0] : Fin 3 → Nat) a + S1x168x4096.size a ≤ S8x168x4096.size a := by revert σ; decide

/-- Slot `σ` of band `r`'s buffer. -/
def slotM : (r : Fin 3) → Fin 8 → Memref sig .tc .vmem (shp r) .fp8e4m3
  | 0, σ => ((Memref.whole cc0_scratch0).slice (Rect.unit (s := S8x176x4096) ![σ.val, 0, 0] S1x176x4096.size (inb_slot0 σ)) (fun _ => rfl)).squeeze S176x4096 squeezes_S1x176x4096_S176x4096
  | 1, σ => ((Memref.whole cc0_scratch1).slice (Rect.unit (s := S8x168x4096) ![σ.val, 0, 0] S1x168x4096.size (inb_slot1 σ)) (fun _ => rfl)).squeeze S168x4096 squeezes_S1x168x4096_S168x4096
  | 2, σ => ((Memref.whole cc0_scratch2).slice (Rect.unit (s := S8x168x4096) ![σ.val, 0, 0] S1x168x4096.size (inb_slot1 σ)) (fun _ => rfl)).squeeze S168x4096 squeezes_S1x168x4096_S168x4096

theorem slotM0_of {off : Fin 3 → Nat} {h : ∀ a, off a + S1x176x4096.size a ≤ S8x176x4096.size a} (σ : Fin 8) (ho : off = ![σ.val, 0, 0]) :
    ((Memref.whole cc0_scratch0).slice (Rect.unit (s := S8x176x4096) off S1x176x4096.size h) (fun _ => rfl)).squeeze S176x4096 squeezes_S1x176x4096_S176x4096 = slotM 0 σ := by
  subst ho; rfl
theorem slotM1_of {off : Fin 3 → Nat} {h : ∀ a, off a + S1x168x4096.size a ≤ S8x168x4096.size a} (σ : Fin 8) (ho : off = ![σ.val, 0, 0]) :
    ((Memref.whole cc0_scratch1).slice (Rect.unit (s := S8x168x4096) off S1x168x4096.size h) (fun _ => rfl)).squeeze S168x4096 squeezes_S1x168x4096_S168x4096 = slotM 1 σ := by
  subst ho; rfl
theorem slotM2_of {off : Fin 3 → Nat} {h : ∀ a, off a + S1x168x4096.size a ≤ S8x168x4096.size a} (σ : Fin 8) (ho : off = ![σ.val, 0, 0]) :
    ((Memref.whole cc0_scratch2).slice (Rect.unit (s := S8x168x4096) off S1x168x4096.size h) (fun _ => rfl)).squeeze S168x4096 squeezes_S1x168x4096_S168x4096 = slotM 2 σ := by
  subst ho; rfl

/-! ## The semaphores -/

theorem inb_sem21 (i : Snd) : ∀ a, (![7 * i.1.val + i.2.val] : Fin 1 → Nat) a + S1.size a ≤ S21.size a := by revert i; decide
theorem inb_sem4 (l : Fin 4) : ∀ a, (![l.val] : Fin 1 → Nat) a + S1.size a ≤ S4.size a := by revert l; decide

/-- The semaphore a transfer's sender waits on. -/
def sendS (i : Snd) : DmaSem sig := ((cc0_scratch8.slice (Rect.unit (s := S21) ![7 * i.1.val + i.2.val] S1.size (inb_sem21 i))).squeeze S_ squeezes_S1_S_).sem
/-- The semaphore a transfer's receiver waits on. -/
def recvS (i : Snd) : DmaSem sig := ((cc0_scratch9.slice (Rect.unit (s := S21) ![7 * i.1.val + i.2.val] S1.size (inb_sem21 i))).squeeze S_ squeezes_S1_S_).sem
/-- The semaphore of the local copy number `l`. -/
def locS (l : Fin 4) : DmaSem sig := ((cc0_scratch10.slice (Rect.unit (s := S4) ![l.val] S1.size (inb_sem4 l))).squeeze S_ squeezes_S1_S_).sem
/-- The barrier semaphore of the runtime. -/
abbrev barS : Sem sig := (SemArray.scalar (sig.barrier 0 rfl) : Sems sig S_).sem

theorem sendS_val (i : Snd) : (sendS i).val = 3 + (7 * i.1.val + i.2.val) := by revert i; decide
theorem recvS_val (i : Snd) : (recvS i).val = 24 + (7 * i.1.val + i.2.val) := by revert i; decide
theorem locS_val (l : Fin 4) : (locS l).val = 45 + l.val := by revert l; decide

/-! ## What the program's own device and offset arithmetic comes to -/

theorem off1_eq (c : Dev nD) : k0_off1 c = ![(slotF 0 c 0).val, 0, 0] := by revert c; decide +kernel
theorem off2_eq (c : Dev nD) : k0_off2 c = ![(slotF 0 c 0).val, 0, 0] := by revert c; decide +kernel
theorem off3_eq (c : Dev nD) : k0_off3 c = ![(slotF 1 c 0).val, 0, 0] := by revert c; decide +kernel
theorem off4_eq (c : Dev nD) : k0_off4 c = ![(slotF 1 c 0).val, 0, 0] := by revert c; decide +kernel
theorem off5_eq (c : Dev nD) : k0_off5 c = ![(slotF 2 c 0).val, 0, 0] := by revert c; decide +kernel
theorem off6_eq (c : Dev nD) : k0_off6 c = ![(slotF 2 c 0).val, 0, 0] := by revert c; decide +kernel
theorem off10_eq (c : Dev nD) (f : Fin 7) : k0_off10 c (BitVec.ofNat 32 (1 + f.val)) = ![(slotF 0 c (1 + f.castSucc)).val, 0, 0] := by revert c f; decide +kernel
theorem off11_eq (c : Dev nD) (f : Fin 7) : k0_off11 c (BitVec.ofNat 32 (1 + f.val)) = ![(slotF 1 c (1 + f.castSucc)).val, 0, 0] := by revert c f; decide +kernel
theorem off12_eq (c : Dev nD) (f : Fin 7) : k0_off12 c (BitVec.ofNat 32 (1 + f.val)) = ![(slotF 2 c (1 + f.castSucc)).val, 0, 0] := by revert c f; decide +kernel
theorem off13_eq (c : Dev nD) (f : Fin 7) : k0_off13 c (BitVec.ofNat 32 (1 + f.val)) = ![(slotF 0 c (1 + f.castSucc)).val, 0, 0] := by revert c f; decide +kernel
theorem off15_eq (c : Dev nD) (f : Fin 7) : k0_off15 c (BitVec.ofNat 32 (1 + f.val)) = ![(slotF 1 c (1 + f.castSucc)).val, 0, 0] := by revert c f; decide +kernel
theorem off17_eq (c : Dev nD) (f : Fin 7) : k0_off17 c (BitVec.ofNat 32 (1 + f.val)) = ![(slotF 2 c (1 + f.castSucc)).val, 0, 0] := by revert c f; decide +kernel

/-- The first row of the result's band `r` that comes from device `o`. -/
def outRow (r : Fin 3) (o : Dev nD) : ℕ := o.val * 512 + (![0, 176, 344] : Fin 3 → ℕ) r

theorem off7_eq (c : Dev nD) : k0_off7 c = ![outRow 0 (origin 0 (slotF 0 c 0)), 0] := by revert c; decide +kernel
theorem off8_eq (c : Dev nD) : k0_off8 c = ![outRow 1 (origin 1 (slotF 1 c 0)), 0] := by revert c; decide +kernel
theorem off9_eq (c : Dev nD) : k0_off9 c = ![outRow 2 (origin 2 (slotF 2 c 0)), 0] := by revert c; decide +kernel
theorem off14_eq (c : Dev nD) (f : Fin 7) : k0_off14 c (BitVec.ofNat 32 (1 + f.val)) = ![outRow 0 (origin 0 (slotF 0 c (1 + f.castSucc))), 0] := by revert c f; decide +kernel
theorem off16_eq (c : Dev nD) (f : Fin 7) : k0_off16 c (BitVec.ofNat 32 (1 + f.val)) = ![outRow 1 (origin 1 (slotF 1 c (1 + f.castSucc))), 0] := by revert c f; decide +kernel
theorem off18_eq (c : Dev nD) (f : Fin 7) : k0_off18 c (BitVec.ofNat 32 (1 + f.val)) = ![outRow 2 (origin 2 (slotF 2 c (1 + f.castSucc))), 0] := by revert c f; decide +kernel

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel
theorem dev4_eq (c : Dev nD) : (⟨k0_dev4 c, k0_dev4_lt c⟩ : Dev nD) = peer (0, 0) c := by revert c; decide +kernel
theorem dev5_eq (c : Dev nD) : (⟨k0_dev5 c, k0_dev5_lt c⟩ : Dev nD) = peer (1, 0) c := by revert c; decide +kernel
theorem dev6_eq (c : Dev nD) : (⟨k0_dev6 c, k0_dev6_lt c⟩ : Dev nD) = peer (2, 0) c := by revert c; decide +kernel
theorem dev7_eq (c : Dev nD) : (⟨k0_dev7 c, k0_dev7_lt c⟩ : Dev nD) = peer (0, 1) c := by revert c; decide +kernel
theorem dev8_eq (c : Dev nD) : (⟨k0_dev8 c, k0_dev8_lt c⟩ : Dev nD) = peer (1, 1) c := by revert c; decide +kernel
theorem dev9_eq (c : Dev nD) : (⟨k0_dev9 c, k0_dev9_lt c⟩ : Dev nD) = peer (2, 1) c := by revert c; decide +kernel
theorem dev10_eq (c : Dev nD) : (⟨k0_dev10 c, k0_dev10_lt c⟩ : Dev nD) = peer (0, 2) c := by revert c; decide +kernel
theorem dev11_eq (c : Dev nD) : (⟨k0_dev11 c, k0_dev11_lt c⟩ : Dev nD) = peer (1, 2) c := by revert c; decide +kernel
theorem dev12_eq (c : Dev nD) : (⟨k0_dev12 c, k0_dev12_lt c⟩ : Dev nD) = peer (2, 2) c := by revert c; decide +kernel
theorem dev13_eq (c : Dev nD) : (⟨k0_dev13 c, k0_dev13_lt c⟩ : Dev nD) = peer (0, 3) c := by revert c; decide +kernel
theorem dev14_eq (c : Dev nD) : (⟨k0_dev14 c, k0_dev14_lt c⟩ : Dev nD) = peer (0, 4) c := by revert c; decide +kernel
theorem dev15_eq (c : Dev nD) : (⟨k0_dev15 c, k0_dev15_lt c⟩ : Dev nD) = peer (1, 3) c := by revert c; decide +kernel
theorem dev16_eq (c : Dev nD) : (⟨k0_dev16 c, k0_dev16_lt c⟩ : Dev nD) = peer (1, 4) c := by revert c; decide +kernel
theorem dev17_eq (c : Dev nD) : (⟨k0_dev17 c, k0_dev17_lt c⟩ : Dev nD) = peer (2, 3) c := by revert c; decide +kernel
theorem dev18_eq (c : Dev nD) : (⟨k0_dev18 c, k0_dev18_lt c⟩ : Dev nD) = peer (2, 4) c := by revert c; decide +kernel
theorem dev19_eq (c : Dev nD) : (⟨k0_dev19 c, k0_dev19_lt c⟩ : Dev nD) = peer (0, 5) c := by revert c; decide +kernel
theorem dev20_eq (c : Dev nD) : (⟨k0_dev20 c, k0_dev20_lt c⟩ : Dev nD) = peer (1, 5) c := by revert c; decide +kernel
theorem dev21_eq (c : Dev nD) : (⟨k0_dev21 c, k0_dev21_lt c⟩ : Dev nD) = peer (2, 5) c := by revert c; decide +kernel
theorem dev22_eq (c : Dev nD) : (⟨k0_dev22 c, k0_dev22_lt c⟩ : Dev nD) = peer (0, 6) c := by revert c; decide +kernel
theorem dev23_eq (c : Dev nD) : (⟨k0_dev23 c, k0_dev23_lt c⟩ : Dev nD) = peer (1, 6) c := by revert c; decide +kernel
theorem dev24_eq (c : Dev nD) : (⟨k0_dev24 c, k0_dev24_lt c⟩ : Dev nD) = peer (2, 6) c := by revert c; decide +kernel

end Cert.BandGather

end
-- ==== Proof.Sched.lean ====
/-
What each buffer comes to hold, and the exchange's semaphores as one round each: who pays a cell, how much, and what
the payment hands over.
-/
module

public import proofs.«01_k».proof.Proof.Topo

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the exchange's with duties named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

abbrev lshp : Fin 4 → Shape
  | 0 => S176x4096
  | 1 => S168x4096
  | 2 => S168x4096
  | 3 => S4096x256

/-- The source of local copy `l`: the three bands of the device's rows of `x`, and its columns of the weight. -/
def lsrc : (l : Fin 4) → Memref sig .tc .hbm (lshp l) .f32
  | 0 => (Memref.whole main_arg0).slice (Rect.unit (s := S512x4096) ![0, 0] S176x4096.size inb_S512x4096_S176x4096_0_0) (fun _ => rfl)
  | 1 => (Memref.whole main_arg0).slice (Rect.unit (s := S512x4096) ![176, 0] S168x4096.size inb_S512x4096_S168x4096_176_0) (fun _ => rfl)
  | 2 => (Memref.whole main_arg0).slice (Rect.unit (s := S512x4096) ![344, 0] S168x4096.size inb_S512x4096_S168x4096_344_0) (fun _ => rfl)
  | 3 => Memref.whole main_arg1
/-- Its destination. -/
def ldst : (l : Fin 4) → Memref sig .tc .vmem (lshp l) .f32
  | 0 => Memref.whole cc0_scratch4
  | 1 => Memref.whole cc0_scratch5
  | 2 => Memref.whole cc0_scratch6
  | 3 => Memref.whole cc0_scratch7

/-- The launch contents of the source's buffer on device `c`. -/
def lmem (c : Dev nD) (l : Fin 4) : (lsrc l).view.ty.Contents (Elt F) := m ((lsrc l).view.loc (c : Thread nD τ))
/-- What local copy `l` brings on device `c`. -/
def lval (c : Dev nD) (l : Fin 4) : (lshp l).Idx → Elt F .f32 := (lsrc l).view.read (Elt F) (lmem m c l)
/-- The destination's contents once it has landed. -/
def lland (c : Dev nD) : (l : Fin 4) → (ldst l).view.ty.Contents (Elt F)
  | 0 => lval m c 0
  | 1 => lval m c 1
  | 2 => lval m c 2
  | 3 => lval m c 3

theorem lland_write (c : Dev nD) (l : Fin 4) (fd : (ldst l).view.ty.Contents (Elt F)) :
    (ldst l).view.write (Elt F) fd (lval m c l) Finset.univ = lland m c l := by
  match l with
  | 0 => exact View.write_whole_univ _ _ _
  | 1 => exact View.write_whole_univ _ _ _
  | 2 => exact View.write_whole_univ _ _ _
  | 3 => exact View.write_whole_univ _ _ _

/-- Band `r` of device `o`'s rows of `x`, narrowed. -/
def xrow (o : Dev nD) : (r : Fin 3) → (shp1 r).Idx → Elt F .fp8e4m3
  | 0 => k0_pay2 (lval m o 0)
  | 1 => k0_pay3 (lval m o 1)
  | 2 => k0_pay4 (lval m o 2)

/-- The device's columns of the weight, narrowed. -/
def w8 (c : Dev nD) : Vec F S4096x256 .fp8e4m3 := k0_pay5 (lval m c 3)

/-- What slot `σ` of a gather buffer holds once filled, as contents of the whole buffer; the same on every device. -/
def gat : (r : Fin 3) → (σ : Fin 8) → (slotM r σ).view.ty.Contents (Elt F)
  | 0, _ => fun (i : S8x176x4096.Idx) => xrow m (origin 0 (i 0)) 0 (fun | ⟨0, _⟩ => (0 : Fin 1) | ⟨1, _⟩ => i 1 | ⟨2, _⟩ => i 2)
  | 1, _ => fun (i : S8x168x4096.Idx) => xrow m (origin 1 (i 0)) 1 (fun | ⟨0, _⟩ => (0 : Fin 1) | ⟨1, _⟩ => i 1 | ⟨2, _⟩ => i 2)
  | 2, _ => fun (i : S8x168x4096.Idx) => xrow m (origin 2 (i 0)) 2 (fun | ⟨0, _⟩ => (0 : Fin 1) | ⟨1, _⟩ => i 1 | ⟨2, _⟩ => i 2)

/-! ## Points-tos -/

/-- A share of slot `σ` of band `r`'s buffer on device `c`, with contents `f`. -/
def slotAt (c : Dev nD) (r : Fin 3) (σ : Fin 8) (q : PosShare TreeShare) (f : (slotM r σ).view.ty.Contents (Elt F)) : sProp 𝕄 :=
  (slotM r σ).view.loc (c : Thread nD τ) ↦[(slotM r σ).view.set]{q} f
/-- The same with the contents it is filled with. -/
def slotPts (c : Dev nD) (r : Fin 3) (σ : Fin 8) (q : PosShare TreeShare) : sProp 𝕄 := slotAt c r σ q (gat m r σ)
/-- The whole slot, with any contents. -/
def slotAny (c : Dev nD) (r : Fin 3) (σ : Fin 8) : sProp 𝕄 := iprop(∃ f, slotAt c r σ fullShare f)
/-- The source and the destination of a local copy. -/
def lsrcPts (c : Dev nD) (l : Fin 4) : sProp 𝕄 := (lsrc l).view.loc (c : Thread nD τ) ↦[(lsrc l).view.set]{fullShare} lmem m c l
def ldstAt (c : Dev nD) (l : Fin 4) (f : (ldst l).view.ty.Contents (Elt F)) : sProp 𝕄 :=
  (ldst l).view.loc (c : Thread nD τ) ↦[(ldst l).view.set]{fullShare} f

omit [FloatOps F] in
instance slotAt_storable (c : Dev nD) (r σ q f) : BI.Storable (upEmb : UEmb _ 𝕄) (slotAt (F := F) c r σ q f) := by unfold slotAt; infer_instance
instance slotPts_storable (c : Dev nD) (r σ q) : BI.Storable (upEmb : UEmb _ 𝕄) (slotPts (F := F) m c r σ q) := by unfold slotPts; infer_instance
omit [FloatOps F] in
instance slotAny_storable (c : Dev nD) (r σ) : BI.Storable (upEmb : UEmb _ 𝕄) (slotAny (F := F) c r σ) := by unfold slotAny; infer_instance
omit [FloatOps F] in
instance lsrcPts_storable (c : Dev nD) (l) : BI.Storable (upEmb : UEmb _ 𝕄) (lsrcPts (F := F) m c l) := by unfold lsrcPts; infer_instance
omit [FloatOps F] in
instance ldstAt_storable (c : Dev nD) (l f) : BI.Storable (upEmb : UEmb _ 𝕄) (ldstAt (F := F) c l f) := by unfold ldstAt; infer_instance

/-- The share of a filled slot the device keeps for its own loads. -/
def qload : Fin 8 → PosShare TreeShare
  | 0 | 1 | 2 | 3 => fullShare.left
  | _ => fullShare
/-- The share of its source a transfer takes along. -/
def qsend : Fin 7 → PosShare TreeShare
  | 0 => fullShare.right.left
  | 1 => fullShare.right.right.left
  | 2 => fullShare.right.right.right
  | 3 => fullShare.right.left
  | 4 => fullShare.right.right
  | 5 => fullShare.right
  | 6 => fullShare.right

/-- The transfers that carry the slot at difference `f`. -/
def carries (f : Fin 8) : Finset (Fin 7) := Finset.univ.filter fun k => srcFlip k = f

omit [FloatOps F] in
/-- Any points-to whole is the share kept for loads and the shares of the transfers that carry it. -/
theorem share_deal {ℓ : Loc nD τ sig} (I : Finset (Idx ℓ)) (g : Buf (Elt F) ℓ) (f : Fin 8) :
    (ℓ ↦[I]{fullShare} g : sProp 𝕄) = iprop((ℓ ↦[I]{qload f} g) ∗ bigSep (carries f) fun k => ℓ ↦[I]{qsend k} g) := by
  have cut : ∀ q : PosShare TreeShare, (ℓ ↦[I]{q} g : sProp 𝕄) = iprop((ℓ ↦[I]{q.left} g) ∗ ℓ ↦[I]{q.right} g) := fun q =>
    BI.Entails.antisymm (pointsTo_share (PosShare.mem_left_op_right q)).1 (pointsTo_share (PosShare.mem_left_op_right q)).2
  have none : ∀ f : Fin 8, qload f = fullShare → carries f = ∅ →
      (ℓ ↦[I]{fullShare} g : sProp 𝕄) = iprop((ℓ ↦[I]{qload f} g) ∗ bigSep (carries f) fun k => ℓ ↦[I]{qsend k} g) := fun f h h' => by
    rw [h, h', bigSep_empty]; exact (BI.Entails.antisymm (BI.sep_emp).1 (BI.sep_emp).2).symm
  match f with
  | 0 =>
    rw [show carries 0 = insert 0 (insert 1 {2}) from by decide, bigSep_insert (by decide), bigSep_insert (by decide), bigSep_singleton]
    exact (cut _).trans (congrArg _ ((cut _).trans (congrArg _ (cut _))))
  | 1 =>
    rw [show carries 1 = insert 3 {4} from by decide, bigSep_insert (by decide), bigSep_singleton]
    exact (cut _).trans (congrArg _ (cut _))
  | 2 =>
    rw [show carries 2 = {5} from by decide, bigSep_singleton]; exact cut _
  | 3 =>
    rw [show carries 3 = {6} from by decide, bigSep_singleton]; exact cut _
  | 4 => exact none 4 rfl (by decide)
  | 5 => exact none 5 rfl (by decide)
  | 6 => exact none 6 rfl (by decide)
  | 7 => exact none 7 rfl (by decide)

theorem slot_deal (c : Dev nD) (r : Fin 3) (σ f : Fin 8) :
    slotPts m c r σ fullShare = iprop(slotPts m c r σ (qload f) ∗ bigSep (carries f) fun k => slotPts m c r σ (qsend k)) := by
  unfold slotPts slotAt; exact share_deal _ _ f

/-! ## The cells -/

/-- The exchange's semaphores of one device: the barrier, and its own of sends, receives and local copies. -/
abbrev OIx : Type := Snd ⊕ (Snd ⊕ Fin 4)
abbrev CIx : Type := Unit ⊕ OIx

def osem : OIx → SemLoc sig
  | .inl i => .dma (sendS i)
  | .inr (.inl i) => .dma (recvS i)
  | .inr (.inr l) => .dma (locS l)
def csem : CIx → SemLoc sig
  | .inl _ => .reg barS
  | .inr o => osem o

abbrev cellAt (c : Dev nD) (k : CIx) : GSem nD τ sig := ((c : Thread nD τ), csem k)
abbrev barCell (c : Dev nD) : GSem nD τ sig := cellAt c (.inl ())
abbrev sendCell (i : Snd) (c : Dev nD) : GSem nD τ sig := cellAt c (.inr (.inl i))
abbrev recvCell (i : Snd) (c : Dev nD) : GSem nD τ sig := cellAt c (.inr (.inr (.inl i)))
abbrev locCell (l : Fin 4) (c : Dev nD) : GSem nD τ sig := cellAt c (.inr (.inr (.inr l)))

/-- A semaphore's index among the exchange's, if it is one of them. -/
def cix : SemLoc sig → Option CIx
  | .reg s => if s = barS then some (.inl ()) else none
  | .dma q =>
    if h : 3 ≤ q.val ∧ q.val < 24 then some (.inr (.inl (⟨(q.val - 3) / 7, by omega⟩, ⟨(q.val - 3) % 7, by omega⟩)))
    else if h : 24 ≤ q.val ∧ q.val < 45 then some (.inr (.inr (.inl (⟨(q.val - 24) / 7, by omega⟩, ⟨(q.val - 24) % 7, by omega⟩))))
    else if h : 45 ≤ q.val ∧ q.val < 49 then some (.inr (.inr (.inr ⟨q.val - 45, by omega⟩)))
    else none

set_option maxRecDepth 4000 in
theorem cix_csem (k : CIx) : cix (csem k) = some k := by
  rcases k with u | i | i | l
  · show (if barS = barS then some (.inl ()) else none : Option CIx) = _
    exact if_pos rfl
  · revert i; decide
  · revert i; decide
  · revert l; decide

theorem csem_injective : Function.Injective csem := fun a b h =>
  Option.some.inj ((cix_csem a).symm.trans ((congrArg cix h).trans (cix_csem b)))

theorem cellAt_injective : Function.Injective fun p : Dev nD × CIx => cellAt p.1 p.2 := fun a b h => by
  exact Prod.ext (congrArg (fun g : GSem nD τ sig => g.1.1) h) (csem_injective (congrArg Prod.snd h))

/-- The credit of a transfer of band `r`, and of a local copy. -/
def crd (r : Fin 3) : ℕ := (slotM r 0).view.dmaCredit
def lcrd (l : Fin 4) : ℕ := (ldst l).view.dmaCredit

omit [FloatOps F] in
theorem crd_eq (r : Fin 3) (σ : Fin 8) : (slotM r σ).view.dmaCredit = crd r := by
  match r with
  | 0 => rfl
  | 1 => rfl
  | 2 => rfl
omit [FloatOps F] in
theorem crd_pos (r : Fin 3) : 0 < crd r := View.dmaCredit_pos _ (by match r with | 0 => decide | 1 => decide | 2 => decide)
omit [FloatOps F] in
theorem lcrd_pos (l : Fin 4) : 0 < lcrd l := View.dmaCredit_pos _ (by match l with | 0 => decide | 1 => decide | 2 => decide | 3 => decide)

/-! ## The payments -/

/-- The slot of the peer's buffer that transfer `i` of device `c` fills. -/
def landing (c : Dev nD) (i : Snd) : sProp 𝕄 := slotAny (peer i c) i.1 (slotF i.1 c (srcFlip i.2))
/-- What the neighbour along axis `a` hands device `c` with its barrier signal: the slots `c` fills in its buffers. -/
def barPay (c : Dev nD) (a : Fin 3) : sProp 𝕄 := bigSep (Finset.univ.filter fun i : Snd => dirOf i = a) (landing c)
/-- What a transfer's sender gets back: the share of the source it gave. -/
def sendPay (c : Dev nD) (i : Snd) : sProp 𝕄 := slotPts m c i.1 (slotF i.1 c (srcFlip i.2)) (qsend i.2)
/-- What its receiver gets: the slot, filled. -/
def recvPay (c : Dev nD) (i : Snd) : sProp 𝕄 := slotPts m c i.1 (slotF i.1 c (dstFlip i.2)) fullShare
/-- What a local copy gives: its destination, filled, and its source back. -/
def locPay (c : Dev nD) (l : Fin 4) : sProp 𝕄 := iprop(ldstAt c l (lland m c l) ∗ lsrcPts m c l)

/-- What a payment of a cell's duty hands over. -/
def payOf (c : Dev nD) (d : Fin 3) : CIx → sProp 𝕄
  | .inl _ => barPay c d
  | .inr (.inl i) => sendPay m c i
  | .inr (.inr (.inl i)) => recvPay m c i
  | .inr (.inr (.inr l)) => locPay m c l
/-- How much it is. -/
def amtOf : CIx → ℕ
  | .inl _ => 1
  | .inr (.inl i) => crd i.1
  | .inr (.inr (.inl i)) => crd i.1
  | .inr (.inr (.inr l)) => lcrd l
/-- The duties of a cell. -/
def dutOf : CIx → Finset (Fin 3)
  | .inl _ => Finset.univ
  | .inr _ => {0}

theorem amtOf_pos (k : CIx) : 0 < amtOf k := by
  rcases k with u | i | i | l
  · exact Nat.one_pos
  · exact crd_pos _
  · exact crd_pos _
  · exact lcrd_pos _

instance payOf_storable (c : Dev nD) (d : Fin 3) (k : CIx) : BI.Storable (upEmb : UEmb _ 𝕄) (payOf (F := F) m c d k) := by
  rcases k with u | i | i | l <;> unfold payOf
  · unfold barPay landing; infer_instance
  · unfold sendPay; infer_instance
  · unfold recvPay; infer_instance
  · unfold locPay; infer_instance

/-- One round for every cell. -/
def sched : Rounds.Schedule (GSem nD τ sig) (Fin 3) 𝕄 where
  duties g r := if r = 0 ∧ g.1.2 = .tc then (cix g.2).elim ∅ dutOf else ∅
  unitless _ := False
  amount g _ _ := (cix g.2).elim 1 amtOf
  payload g _ d := (cix g.2).elim iprop(emp) (payOf m g.1.1 d)
  amount_pos g _ _ _ := by
    cases cix g.2 with
    | none => exact Nat.one_pos
    | some k => exact amtOf_pos k

instance sched_storable (g : GSem nD τ sig) (r : ℕ) (d : Fin 3) : BI.Storable (upEmb : UEmb _ 𝕄) ((sched (F := F) m).payload g r d) := by
  show BI.Storable upEmb ((cix g.2).elim iprop(emp) (payOf m g.1.1 d))
  cases cix g.2 with
  | none => simp only [Option.elim_none]; infer_instance
  | some k => simp only [Option.elim_some]; infer_instance

theorem duties_at (c : Dev nD) (k : CIx) : (sched (F := F) m).duties (cellAt c k) 0 = dutOf k := by
  dsimp only [sched, cellAt]; rw [if_pos ⟨rfl, rfl⟩, cix_csem]; rfl
theorem duties_later (g : GSem nD τ sig) : ∀ r, 1 ≤ r → (sched (F := F) m).duties g r = ∅ :=
  fun r hr => by dsimp only [sched]; exact if_neg fun h => by omega
theorem amount_at (c : Dev nD) (k : CIx) (d : Fin 3) : (sched (F := F) m).amount (cellAt c k) 0 d = amtOf k := by
  show (cix (csem k)).elim 1 amtOf = amtOf k
  rw [cix_csem]; rfl
theorem payload_at (c : Dev nD) (k : CIx) (d : Fin 3) : (sched (F := F) m).payload (cellAt c k) 0 d = payOf m c d k := by
  show (cix (csem k)).elim iprop(emp) (payOf m c d) = payOf m c d k
  rw [cix_csem]; rfl
theorem expect_at (c : Dev nD) (k : CIx) : (sched (F := F) m).expect (cellAt c k) 0 = (dutOf k).card * amtOf k := by
  unfold Schedule.expect Schedule.amountOf
  rw [duties_at, Finset.sum_congr rfl fun d _ => amount_at m c k d, Finset.sum_const, smul_eq_mul]
/-- All a cell of one duty hands over. -/
theorem rest_own (c : Dev nD) (o : OIx) :
    bigSep ((sched (F := F) m).duties (cellAt c (.inr o)) 0 \ ∅) (fun d => (sched (F := F) m).payload (cellAt c (.inr o)) 0 d) = payOf m c 0 (.inr o) := by
  rw [Finset.sdiff_empty, duties_at]; exact (bigSep_singleton ..).trans (payload_at m c _ 0)
/-- The transfers sorted by their axis. -/
theorem bigSep_dirs (Φ : Snd → sProp 𝕄) :
    bigSep Finset.univ Φ = iprop(bigSep (Finset.univ.filter fun i : Snd => dirOf i = 0) Φ ∗ bigSep (Finset.univ.filter fun i : Snd => dirOf i = 1) Φ
      ∗ bigSep (Finset.univ.filter fun i : Snd => dirOf i = 2) Φ) := by
  exact (congrArg (fun s => bigSep s Φ) (by decide : (Finset.univ : Finset Snd) = (Finset.univ.filter fun i => dirOf i = 0)
    ∪ ((Finset.univ.filter fun i => dirOf i = 1) ∪ (Finset.univ.filter fun i => dirOf i = 2)))).trans
    ((bigSep_union (by decide)).trans (congrArg _ (bigSep_union (by decide))))
/-- All the barrier cell hands over: every slot the device fills elsewhere. -/
theorem rest_bar (c : Dev nD) :
    bigSep ((sched (F := F) m).duties (barCell c) 0 \ ∅) (fun d => (sched (F := F) m).payload (barCell c) 0 d) = bigSep Finset.univ (landing (F := F) c) := by
  rw [Finset.sdiff_empty, duties_at, bigSep_congr fun d _ => payload_at m c (.inl ()) d, bigSep_dirs]
  exact bigSep_univ_eq_bigSepL [0, 1, 2] (by decide) (by decide) _

/-! ## What a device owes, and the levels -/

/-- The transfers a device has not issued when it has issued the first `n`. -/
def left (n : ℕ) : Finset Snd := Finset.univ.filter fun i => n ≤ pos i
/-- What it then owes: their credits, at the peers' receive cells. -/
def owed (c : Dev nD) (n : ℕ) : CellTallies nD τ sig Unit := ∑ i ∈ left n, tallyAt (recvCell i (peer i c)) () (crd i.1)

theorem left_erase (i : Snd) : (left (pos i)).erase i = left (pos i + 1) := by revert i; decide
theorem mem_left (i : Snd) : i ∈ left (pos i) := by unfold left; simp
theorem left_all : left 0 = Finset.univ := by unfold left; simp
theorem left_none : left 21 = ∅ := by decide

theorem owed_step (c : Dev nD) (i : Snd) : owed c (pos i) = owed c (pos i + 1) + tallyAt (recvCell i (peer i c)) () (crd i.1) := by
  unfold owed; rw [← left_erase i, Finset.sum_erase_add _ _ (mem_left i)]
theorem owed_end (c : Dev nD) : owed c 21 = 0 := by unfold owed; rw [left_none, Finset.sum_empty]

/-- What a device owes at launch: those, and one unit at each neighbour's barrier cell. -/
def owed2 (c : Dev nD) : CellTallies nD τ sig Unit := owed c 0 + tallyAt (barCell (nbr 2 c)) () 1
def owed1 (c : Dev nD) : CellTallies nD τ sig Unit := owed2 c + tallyAt (barCell (nbr 1 c)) () 1
def owed0 (c : Dev nD) : CellTallies nD τ sig Unit := owed1 c + tallyAt (barCell (nbr 0 c)) () 1

def L (g : GSem nD τ sig) : Finset Unit := if g.1.2 = .tc then {()} else ∅
/-- The level of a cell: the barrier's, then the receive cells by how late they fill; all else at the bottom. -/
def lvOf : CIx → ℕ
  | .inl _ => 1
  | .inr (.inl _) => 0
  | .inr (.inr (.inl i)) => (![2, 2, 2, 3, 3, 3, 4] : Fin 7 → ℕ) i.2
  | .inr (.inr (.inr _)) => 0
def lv (g : GSem nD τ sig) (_ : Unit) : ℕ := (cix g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CIx) (u : Unit) : lv (cellAt c k) u = lvOf k := by
  show (cix (csem k)).elim 0 lvOf = lvOf k
  rw [cix_csem]; rfl

theorem owed_mem {c : Dev nD} {n : ℕ} {g : GSem nD τ sig} {u : Unit} (h : 0 < owed c n g u) : ∃ i ∈ left n, g = recvCell i (peer i c) := by
  unfold owed at h
  by_contra hn
  push Not at hn
  rw [Finset.sum_apply, Finsupp.finset_sum_apply, Finset.sum_eq_zero fun i hi => by rw [tallyAt_apply, if_neg fun h' => hn i hi h'.1]] at h
  exact Nat.lt_irrefl 0 h

theorem owed0_mem {c : Dev nD} {g : GSem nD τ sig} {u : Unit} (h : 0 < owed0 c g u) : (∃ i ∈ left 0, g = recvCell i (peer i c)) ∨ ∃ a, g = barCell (nbr a c) := by
  unfold owed0 owed1 owed2 at h
  simp only [Pi.add_apply, Finsupp.add_apply] at h
  by_contra hn
  rw [not_or] at hn
  have h0 : owed c 0 g u = 0 := Nat.eq_zero_of_not_pos fun hp => hn.1 (owed_mem hp)
  rw [h0, tallyAt_apply, tallyAt_apply, tallyAt_apply, if_neg (fun h' => hn.2 ⟨2, h'.1⟩), if_neg (fun h' => hn.2 ⟨1, h'.1⟩), if_neg (fun h' => hn.2 ⟨0, h'.1⟩)] at h
  exact Nat.lt_irrefl 0 h

omit [FloatOps F] in
/-- A device may wait on a cell below every receive cell it still owes. -/
theorem mayWait_left (c : Dev nD) (k : CIx) (n : ℕ) (h : ∀ i ∈ left n, lvOf k < lvOf (.inr (.inr (.inl i)))) :
    (levAts L lv : sProp 𝕄) ⊢ MayWait (c : Thread nD τ) (csem k) () (owed c n) :=
  MayOwe.of_cut (L := L) (lev := lv) (lvOf k) (fun p hp => by rw [Finset.mem_singleton.mp hp, L_tc]; exact Finset.mem_singleton_self _)
    (fun g u hg => by obtain ⟨i, -, rfl⟩ := owed_mem hg; rw [L_tc]; exact Finset.mem_singleton_self _)
    (fun p hp => by rw [Finset.mem_singleton.mp hp]; exact le_of_eq (lv_at c k ()))
    (fun g u hg => by obtain ⟨i, hi, rfl⟩ := owed_mem hg; rw [lv_at]; exact h i hi)

omit [FloatOps F] in
/-- The pipeline's own semaphores are below everything. -/
theorem mayWait_stage (c : Dev nD) (q : DmaSem sig) (hq : cix (.dma q) = none) (O : CellTallies nD τ sig Unit) (hO : O = owed0 c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed0_mem hg with ⟨i, -, rfl⟩ | ⟨a, rfl⟩ <;> · rw [L_tc]; exact Finset.mem_singleton_self _)
      (fun p hp => by rw [Finset.mem_singleton.mp hp]; unfold lv; dsimp only; rw [hq]; exact le_rfl)
      (fun g u hg => by
        rcases owed0_mem hg with ⟨i, -, rfl⟩ | ⟨a, rfl⟩
        · rw [lv_at]; exact (by decide : ∀ i : Snd, 0 < lvOf (.inr (.inr (.inl i)))) i
        · rw [lv_at]; exact Nat.one_pos)
  · rw [MayWait_zero]; iintro -; iempintro

end Cert.BandGather

end
-- ==== Proof.Steps.lean ====
/-
What a device holds between two operations of the exchange, and what a transfer, a wait for an arrival and a wait for a
departure do to it.
-/
module

public import proofs.«01_k».proof.Proof.Sched

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

abbrev 𝒱₀ : Variants := Variants.none

/-- The weakest precondition of a program text on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- The invariant of every cell, and that each has reached its round. -/
def recs : sProp 𝕄 := bigSep Finset.univ fun p : Dev nD × CIx => iprop(cellInv ER (sched m) (K p) (cellAt p.1 p.2) ∗ reached ER (cellAt p.1 p.2) 0)
/-- Those, and the levels. -/
def ctx : sProp 𝕄 := iprop(recs m K ∗ levAts L lv)

instance recs_persistent : Persistent (recs (F := F) m K) := by
  unfold recs; infer_instance
instance ctx_persistent : Persistent (ctx (F := F) m K) := by unfold ctx; infer_instance

theorem ctx_cell (c : Dev nD) (k : CIx) : ctx (F := F) m K ⊢ iprop(cellInv ER (sched m) (K (c, k)) (cellAt c k) ∗ reached ER (cellAt c k) 0) := by
  unfold ctx recs
  iintro ⟨#H, -⟩
  ihave H' := (show (bigSep Finset.univ (fun p : Dev nD × CIx => iprop(cellInv ER (sched m) (K p) (cellAt p.1 p.2) ∗ reached ER (cellAt p.1 p.2) 0)) : sProp 𝕄) ⊢ _ from bigSep_elim (Finset.mem_univ ((c, k) : Dev nD × CIx))) $$ H
  iexact H'
theorem ctx_inv (c : Dev nD) (k : CIx) : ctx (F := F) m K ⊢ cellInv ER (sched m) (K (c, k)) (cellAt c k) :=
  (ctx_cell m K c k).trans (by iintro ⟨#H, -⟩; iexact H)
theorem ctx_reached (c : Dev nD) (k : CIx) : ctx (F := F) m K ⊢ reached ER (cellAt c k) 0 :=
  (ctx_cell m K c k).trans (by iintro ⟨-, #H⟩; iexact H)
theorem ctx_lev : ctx (F := F) m K ⊢ levAts L lv := by unfold ctx; iintro ⟨-, #H⟩; iexact H

/-! ## Bags -/

omit [FloatOps F] in
theorem bag_take {I : Type} [DecidableEq I] {s : Finset I} {i : I} (h : i ∈ s) {Φ : I → sProp 𝕄} : bigSep s Φ = iprop(Φ i ∗ bigSep (s.erase i) Φ) := bigSep_erase h
omit [FloatOps F] in
theorem bag_add {I : Type} [DecidableEq I] {s : Finset I} {i : I} (h : i ∉ s) {Φ : I → sProp 𝕄} : bigSep (insert i s) Φ = iprop(Φ i ∗ bigSep s Φ) := bigSep_insert h
omit [FloatOps F] in
theorem bag_join {I : Type} [DecidableEq I] {s t : Finset I} (h : Disjoint s t) {Φ : I → sProp 𝕄} : bigSep (s ∪ t) Φ = iprop(bigSep s Φ ∗ bigSep t Φ) := bigSep_union h

/-- The transfers a device has issued when it has issued the first `n`. -/
def gone (n : ℕ) : Finset Snd := Finset.univ.filter fun i => pos i < n
/-- Those not issued whose source slot is among the first `a` to fill. -/
def avail (n a : ℕ) : Finset Snd := Finset.univ.filter fun i => n ≤ pos i ∧ arr i.1 (srcFlip i.2) < a
/-- The arrivals that are not among the first `a` slots to fill, and those that are. -/
def awaited (a : ℕ) : Finset Snd := Finset.univ.filter fun i => a ≤ arr i.1 (dstFlip i.2)
def got (a : ℕ) : Finset Snd := Finset.univ.filter fun i => arr i.1 (dstFlip i.2) < a
/-- The first `a` slots to fill. -/
def filled (a : ℕ) : Finset (Fin 3 × Fin 8) := Finset.univ.filter fun p => arr p.1 p.2 < a

theorem pos_inj {i j : Snd} (h : pos i = pos j) : i = j := by revert i j; decide
theorem pos_lt (i : Snd) : pos i < 21 := by revert i; decide
theorem arr_inj {r s : Fin 3} {f g : Fin 8} (h : arr r f = arr s g) : (r, f) = (s, g) := by
  unfold arr at h; exact Prod.ext (by dsimp only; omega) (by dsimp only; omega)
theorem dstFlip_inj {j k : Fin 7} (h : dstFlip j = dstFlip k) : j = k := by revert j k; decide
theorem arr_dst_inj {i j : Snd} (h : arr i.1 (dstFlip i.2) = arr j.1 (dstFlip j.2)) : i = j := by
  exact Prod.ext (congrArg Prod.fst (arr_inj h) :) (dstFlip_inj (congrArg Prod.snd (arr_inj h) :))

theorem gone_succ (i : Snd) : gone (pos i + 1) = insert i (gone (pos i)) := by
  ext j; simp only [gone, Finset.mem_filter, Finset.mem_univ, true_and, Finset.mem_insert]
  refine ⟨fun h => ?_, fun h => ?_⟩
  · rcases Nat.lt_or_ge (pos j) (pos i) with h' | h'
    · exact .inr h'
    · exact .inl (pos_inj (by omega))
  · rcases h with rfl | h <;> omega
theorem not_gone (i : Snd) : i ∉ gone (pos i) := by simp [gone]
theorem gone_none : gone 0 = ∅ := by simp [gone]
theorem gone_all : gone 21 = Finset.univ := by decide

theorem avail_erase (i : Snd) (a : ℕ) : (avail (pos i) a).erase i = avail (pos i + 1) a := by
  ext j; simp only [avail, Finset.mem_filter, Finset.mem_univ, true_and, Finset.mem_erase]
  refine ⟨fun h => ⟨?_, h.2.2⟩, fun h => ⟨fun e => by subst e; omega, by omega, h.2⟩⟩
  rcases Nat.lt_or_ge (pos i) (pos j) with h' | h'
  · exact h'
  · exact absurd (pos_inj (by omega)) h.1
theorem mem_avail (i : Snd) {a : ℕ} (h : arr i.1 (srcFlip i.2) < a) : i ∈ avail (pos i) a := by simp [avail, h]

/-- A band's transfers by number. -/
def ofBand (r : Fin 3) : Fin 7 ↪ Snd := ⟨fun k => (r, k), fun a b h => congrArg Prod.snd h⟩

theorem avail_fill (r : Fin 3) (f : Fin 8) (n : ℕ) (h : ∀ k ∈ carries f, n ≤ pos (r, k)) :
    avail n (arr r f + 1) = avail n (arr r f) ∪ (carries f).map (ofBand r) := by
  ext ⟨s, k⟩
  simp only [avail, Finset.mem_filter, Finset.mem_univ, true_and, Finset.mem_union, Finset.mem_map, ofBand, Function.Embedding.coeFn_mk]
  refine ⟨fun ⟨h1, h2⟩ => ?_, fun h' => ?_⟩
  · rcases Nat.lt_or_ge (arr s (srcFlip k)) (arr r f) with h' | h'
    · exact .inl ⟨h1, h'⟩
    · have e := arr_inj (show arr s (srcFlip k) = arr r f by omega)
      refine .inr ⟨k, ?_, Prod.ext (congrArg Prod.fst e).symm rfl⟩
      simp only [carries, Finset.mem_filter, Finset.mem_univ, true_and]; exact congrArg Prod.snd e
  · rcases h' with ⟨h1, h2⟩ | ⟨k', hk, e⟩
    · exact ⟨h1, by omega⟩
    · obtain ⟨rfl, rfl⟩ := Prod.mk.inj e
      refine ⟨h _ hk, ?_⟩
      simp only [carries, Finset.mem_filter, Finset.mem_univ, true_and] at hk
      rw [hk]; omega
theorem avail_fill_disjoint (r : Fin 3) (f : Fin 8) (n : ℕ) : Disjoint (avail n (arr r f)) ((carries f).map (ofBand r)) := by
  rw [Finset.disjoint_left]
  rintro ⟨s, k⟩ h1 h2
  simp only [avail, Finset.mem_filter, Finset.mem_univ, true_and, Finset.mem_map, ofBand, Function.Embedding.coeFn_mk, carries] at h1 h2
  obtain ⟨k', rfl, e⟩ := h2
  obtain ⟨rfl, rfl⟩ := Prod.mk.inj e
  exact Nat.lt_irrefl _ h1.2
theorem avail_none (n : ℕ) : avail n 0 = ∅ := by simp [avail]
theorem avail_end (a : ℕ) : avail 21 a = ∅ := by
  ext i; simp only [avail, Finset.mem_filter, Finset.mem_univ, true_and, Finset.notMem_empty, iff_false]
  have := pos_lt i; omega

theorem awaited_erase (i : Snd) : (awaited (arr i.1 (dstFlip i.2))).erase i = awaited (arr i.1 (dstFlip i.2) + 1) := by
  ext j; simp only [awaited, Finset.mem_filter, Finset.mem_univ, true_and, Finset.mem_erase]
  refine ⟨fun h => ?_, fun h => ⟨fun e => by subst e; omega, by omega⟩⟩
  rcases Nat.lt_or_ge (arr i.1 (dstFlip i.2)) (arr j.1 (dstFlip j.2)) with h' | h'
  · exact h'
  · exact absurd (arr_dst_inj (by omega)) h.1
theorem mem_awaited (i : Snd) : i ∈ awaited (arr i.1 (dstFlip i.2)) := by simp [awaited]
theorem awaited_own {a : ℕ} (h : a ≤ 3) : awaited a = Finset.univ := by
  ext i; simp only [awaited, Finset.mem_filter, Finset.mem_univ, true_and, iff_true]
  exact h.trans ((by decide : ∀ i : Snd, 3 ≤ arr i.1 (dstFlip i.2)) i)
theorem awaited_none : awaited 24 = ∅ := by decide
theorem got_succ (i : Snd) : got (arr i.1 (dstFlip i.2) + 1) = insert i (got (arr i.1 (dstFlip i.2))) := by
  ext j; simp only [got, Finset.mem_filter, Finset.mem_univ, true_and, Finset.mem_insert]
  refine ⟨fun h => ?_, fun h => ?_⟩
  · rcases Nat.lt_or_ge (arr j.1 (dstFlip j.2)) (arr i.1 (dstFlip i.2)) with h' | h'
    · exact .inr h'
    · exact .inl (arr_dst_inj (by omega))
  · rcases h with rfl | h <;> omega
theorem not_got (i : Snd) : i ∉ got (arr i.1 (dstFlip i.2)) := by simp [got]
theorem got_own {a : ℕ} (h : a ≤ 3) : got a = ∅ := by
  ext i; simp only [got, Finset.mem_filter, Finset.mem_univ, true_and, Finset.notMem_empty, iff_false, Nat.not_lt]
  exact h.trans ((by decide : ∀ i : Snd, 3 ≤ arr i.1 (dstFlip i.2)) i)
theorem got_all : got 24 = Finset.univ := by decide

theorem filled_succ (r : Fin 3) (f : Fin 8) : filled (arr r f + 1) = insert (r, f) (filled (arr r f)) := by
  ext ⟨s, g⟩; simp only [filled, Finset.mem_filter, Finset.mem_univ, true_and, Finset.mem_insert]
  refine ⟨fun h => ?_, fun h => ?_⟩
  · rcases Nat.lt_or_ge (arr s g) (arr r f) with h' | h'
    · exact .inr h'
    · exact .inl (arr_inj (by omega))
  · rcases h with h | h
    · obtain ⟨rfl, rfl⟩ := Prod.mk.inj h; omega
    · omega
theorem not_filled (r : Fin 3) (f : Fin 8) : (r, f) ∉ filled (arr r f) := by simp [filled]
theorem mem_filled {r : Fin 3} {f : Fin 8} {a : ℕ} (h : arr r f < a) : (r, f) ∈ filled a := by simp [filled, h]
theorem filled_none : filled 0 = ∅ := by simp [filled]
theorem filled_all : filled 24 = Finset.univ := by decide

/-! ## What a device holds -/

/-- For a transfer not issued: the rights to pay its two cells, its place at its own, and the slot it is to fill. -/
def sendKit (c : Dev nD) (i : Snd) : sProp 𝕄 :=
  iprop(dutyTok ER (sendCell i c) 0 0 ∗ dutyTok ER (recvCell i (peer i c)) 0 0 ∗ atPos ER (sendCell i c) 0 ∅ 0 ∗ landing c i)
/-- For one issued: the credit to wait for its departure. -/
def sentKit (c : Dev nD) (i : Snd) : sProp 𝕄 := iprop(cred (tallyAt (sendCell i c) () (crd i.1)) ∗ atPos ER (sendCell i c) 0 ∅ 0)
/-- For an arrival not waited for. -/
def recvKit (c : Dev nD) (i : Snd) : sProp 𝕄 := iprop(cred (tallyAt (recvCell i c) () (crd i.1)) ∗ atPos ER (recvCell i c) 0 ∅ 0)
/-- For a slot filled: the share kept for loads. -/
def loadPay (c : Dev nD) (p : Fin 3 × Fin 8) : sProp 𝕄 := slotPts m c p.1 (slotF p.1 c p.2) (qload p.2)
/-- What a device owes, whatever it has waited on. -/
def owing (c : Dev nD) (O : CellTallies nD τ sig Unit) : sProp 𝕄 := iprop(∃ W, owes (c : Thread nD τ) O W)

omit [FloatOps F] in
theorem sendKit_eq (c : Dev nD) (i : Snd) : sendKit (F := F) c i
    = iprop(dutyTok ER (sendCell i c) 0 0 ∗ dutyTok ER (recvCell i (peer i c)) 0 0 ∗ atPos ER (sendCell i c) 0 ∅ 0
      ∗ ∃ f, slotAt (peer i c) i.1 (slotF i.1 c (srcFlip i.2)) fullShare f) := rfl
omit [FloatOps F] in
theorem sentKit_eq (c : Dev nD) (i : Snd) : sentKit (F := F) c i = iprop(cred (tallyAt (sendCell i c) () (crd i.1)) ∗ atPos ER (sendCell i c) 0 ∅ 0) := rfl
omit [FloatOps F] in
theorem recvKit_eq (c : Dev nD) (i : Snd) : recvKit (F := F) c i = iprop(cred (tallyAt (recvCell i c) () (crd i.1)) ∗ atPos ER (recvCell i c) 0 ∅ 0) := rfl
omit [FloatOps F] in
theorem owing_eq (c : Dev nD) (O : CellTallies nD τ sig Unit) : owing (F := F) c O = iprop(∃ W, owes (c : Thread nD τ) O W) := rfl

/-- After the first `n` transfers are issued and the first `a` slots filled. -/
def St (c : Dev nD) (n a : ℕ) : sProp 𝕄 :=
  iprop(ctx m K ∗ owing c (owed c n) ∗ bigSep (left n) (sendKit c) ∗ bigSep (gone n) (sentKit c) ∗ bigSep (avail n a) (sendPay m c)
    ∗ bigSep (awaited a) (recvKit c) ∗ bigSep (got a) (fun i => semVal (recvCell i c) 0) ∗ bigSep (filled a) (loadPay m c))

/-! ## Filling a slot -/

theorem pay_deal (c : Dev nD) (r : Fin 3) (f : Fin 8) (n : ℕ) (h : ∀ k ∈ carries f, n ≤ pos (r, k)) :
    iprop(slotPts m c r (slotF r c f) fullShare ∗ bigSep (avail n (arr r f)) (sendPay m c) ∗ bigSep (filled (arr r f)) (loadPay m c))
      ⊢ iprop(bigSep (avail n (arr r f + 1)) (sendPay m c) ∗ bigSep (filled (arr r f + 1)) (loadPay m c)) := by
  rw [slot_deal m c r _ f, avail_fill r f n h, bag_join (avail_fill_disjoint r f n), filled_succ, bag_add (not_filled r f),
    show bigSep ((carries f).map (ofBand r)) (sendPay m c) = bigSep (carries f) (fun k => slotPts m c r (slotF r c f) (qsend k)) from
      (bigSep_map _).trans (bigSep_congr fun k hk => by
        have hk' : srcFlip k = f := by simpa [carries] using hk
        show slotPts m c r (slotF r c (srcFlip k)) (qsend k) = _
        rw [hk'])]
  iintro ⟨⟨H1, H2⟩, H3, H4⟩
  isplitl [H2 H3]
  · isplitl [H3] <;> iassumption
  isplitl [H1]
  · unfold loadPay; iexact H1
  iexact H4

/-- Storing into one's own slot `r` fills it. -/
theorem fill_own (c : Dev nD) (r : Fin 3) (n : ℕ) (h : ∀ k ∈ carries 0, n ≤ pos (r, k)) :
    iprop(slotPts m c r (slotF r c 0) fullShare ∗ St m K c n (arr r 0)) ⊢ St m K c n (arr r 0 + 1) := by
  unfold St
  have h3 : arr r 0 + 1 ≤ 3 := (by decide : ∀ r : Fin 3, arr r 0 + 1 ≤ 3) r
  have h2 : arr r 0 ≤ 3 := by omega
  rw [awaited_own h2, awaited_own h3, got_own h2, got_own h3]
  iintro ⟨Hs, #HC, HO, HL, HG, HA, HR, HZ, HF⟩
  ihave H := (pay_deal m c r 0 n h) $$ [Hs HA HF]
  · isplitl [Hs]; · iexact Hs
    isplitl [HA] <;> iassumption
  icases H with ⟨HA, HF⟩
  isplitr; · iexact HC
  isplitl [HO]; · iexact HO
  isplitl [HL]; · iexact HL
  isplitl [HG]; · iexact HG
  isplitl [HA]; · iexact HA
  isplitl [HR]; · iexact HR
  isplitl [HZ] <;> iassumption

/-! ## A transfer -/

omit [FloatOps F] in
/-- What a view reads, written through the same view, is what was there. -/
theorem write_read_same {κ : Kind} {sp : Space} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem f _ (Finset.mem_univ x), View.read_apply, cast_cast, cast_eq]

/-- The rule of the addressed transfer at transfer `i`. -/
theorem send_rule (c : Dev nD) (i : Snd) (fd : (slotM i.1 (slotF i.1 c (srcFlip i.2))).view.ty.Contents (Elt F)) (W : Waits sig Unit)
    {hsc : (slotM i.1 (slotF i.1 c (srcFlip i.2)) : Memref sig (peer i c : Thread nD τ).2.kind .vmem (shp i.1) .fp8e4m3).view.ref.isScScratch = false}
    {hsrc : (slotM i.1 (slotF i.1 c (srcFlip i.2))).view.WordExact}
    {hdst : (slotM i.1 (slotF i.1 c (srcFlip i.2)) : Memref sig (peer i c : Thread nD τ).2.kind .vmem (shp i.1) .fp8e4m3).view.WordExact}
    {hsem : DmaTarget.Typed .vmem (.dma (recvS i)) (.remote (peer i c : Thread nD τ) (slotM i.1 (slotF i.1 c (srcFlip i.2)) : Memref sig (peer i c : Thread nD τ).2.kind .vmem (shp i.1) .fp8e4m3) (.dma (sendS i)) hsc)}
    {α : Type} {Q : α → sProp 𝕄} {k : PUnit → Prog (TpuEff nD τ sig (Elt F) Λ₀ .tc) α} :
    iprop(cellInv ER (sched m) (K (c, .inr (.inl i))) (sendCell i c) ∗ cellInv ER (sched m) (K (peer i c, .inr (.inr (.inl i)))) (recvCell i (peer i c))
        ∗ sendPay m c i ∗ slotAt (peer i c) i.1 (slotF i.1 c (srcFlip i.2)) fullShare fd
        ∗ owes (c : Thread nD τ) (owed c (pos i)) W
        ∗ dutyTok ER (sendCell i c) 0 0 ∗ reached ER (sendCell i c) 0
        ∗ dutyTok ER (recvCell i (peer i c)) 0 0 ∗ reached ER (recvCell i (peer i c)) 0)
      ⊢ iprop(((cred (tallyAt (sendCell i c) () (crd i.1)) ∗ owes (c : Thread nD τ) (owed c (pos i + 1)) W) -∗ run c (k ⟨⟩) Q)
        -∗ run c (.op (.enqueueDma (slotM i.1 (slotF i.1 c (srcFlip i.2))) (.remote (peer i c : Thread nD τ) (slotM i.1 (slotF i.1 c (srcFlip i.2))) (.dma (sendS i)) hsc)
            (.dma (recvS i)) hsrc hdst hsem) k) Q) := by
  unfold sendPay slotPts slotAt
  exact Rounds.wp_send_pointsTo (Q := Q) (k := k) (defs := defs₀ (F := F)) (Es := Set.univ) 𝒱₀ ER (sched m) (c : Thread nD τ) none (c' := (peer i c : Thread nD τ))
    (src := slotM i.1 (slotF i.1 c (srcFlip i.2))) (dst := slotM i.1 (slotF i.1 c (srcFlip i.2))) (sS := .dma (sendS i)) (sem := .dma (recvS i))
    (hsc := hsc) (hsrc := hsrc) (hdst := hdst) (hsem := hsem) (q := qsend i.2) (fs := gat m i.1 (slotF i.1 c (srcFlip i.2)))
    (κ₁ := K (c, .inr (.inl i))) (κ₂ := K (peer i c, .inr (.inr (.inl i)))) (r₁ := 0) (r₂ := 0) (d₁ := 0) (d₂ := 0) (fd := fd)
    (by show _ ∈ (sched m).duties (sendCell i c) 0; rw [duties_at]; exact Finset.mem_singleton_self _)
    (by show _ ∈ (sched m).duties (recvCell i (peer i c)) 0; rw [duties_at]; exact Finset.mem_singleton_self _)
    () () (crd i.1) (by exact crd_eq i.1 _) (by exact amount_at m c (.inr (.inl i)) 0) (by exact amount_at m (peer i c) (.inr (.inr (.inl i))) 0)
    (owed c (pos i + 1)) (by exact owed_step c i) (W := W)
    (by show _ ⊢ (sched m).payload (sendCell i c) 0 0; rw [payload_at]; exact BI.Entails.refl _)
    (by
      show _ ⊢ (sched m).payload (recvCell i (peer i c)) 0 0
      rw [payload_at]
      show _ ⊢ recvPay m (peer i c) i
      unfold recvPay slotPts slotAt
      rw [slotF_peer]
      exact Entails.of_eq (pointsTo_congr (write_read_same (F := F) (slotM i.1 (slotF i.1 c (srcFlip i.2))).view fd (gat m i.1 (slotF i.1 c (srcFlip i.2))))))

theorem step_send (c : Dev nD) (i : Snd) {n n' a : ℕ} (hn : pos i = n) (hn' : pos i + 1 = n') (ha : arr i.1 (srcFlip i.2) < a)
    {d : Dev nD} (hd : d = peer i c) {src dst : Memref sig .tc .vmem (shp i.1) .fp8e4m3}
    (hs : src = slotM i.1 (slotF i.1 c (srcFlip i.2))) (ht : dst = slotM i.1 (slotF i.1 c (srcFlip i.2)))
    {sS sR : DmaSem sig} (hS : sS = sendS i) (hR : sR = recvS i)
    {hsc : (dst : Memref sig (Dev.tc d : Thread nD τ).2.kind .vmem (shp i.1) .fp8e4m3).view.ref.isScScratch = false}
    {hsrc : src.view.WordExact} {hdst : (dst : Memref sig (Dev.tc d : Thread nD τ).2.kind .vmem (shp i.1) .fp8e4m3).view.WordExact}
    {hsem : DmaTarget.Typed .vmem (.dma sR) (.remote (Dev.tc d : Thread nD τ) (dst : Memref sig (Dev.tc d : Thread nD τ).2.kind .vmem (shp i.1) .fp8e4m3) (.dma sS) hsc)}
    {α : Type} {Q : α → sProp 𝕄} {k : PUnit → Prog (TpuEff nD τ sig (Elt F) Λ₀ .tc) α} :
    St m K c n a ⊢ iprop((St m K c n' a -∗ run c (k ⟨⟩) Q)
      -∗ run c (.op (.enqueueDma src (.remote (Dev.tc d : Thread nD τ) dst (.dma sS) hsc) (.dma sR) hsrc hdst hsem) k) Q) := by
  subst hn hn' hd hs ht hS hR
  unfold St
  rw [bag_take (mem_left i), left_erase, bag_take (mem_avail i ha), avail_erase, gone_succ, bag_add (not_gone i), sendKit_eq, owing_eq c (owed c (pos i))]
  iintro ⟨#HC, ⟨%W, HO⟩, ⟨⟨Ht1, Ht2, Hat, ⟨%fd, Hland⟩⟩, HL⟩, HG, ⟨Hs, HA⟩, HR, HZ, HF⟩ Hk
  iapply (send_rule m K c i fd W) $$ [HO Ht1 Ht2 Hland Hs]
  · isplitr; · iapply (ctx_inv m K c (.inr (.inl i))); iexact HC
    isplitr; · iapply (ctx_inv m K (peer i c) (.inr (.inr (.inl i)))); iexact HC
    isplitl [Hs]; · iexact Hs
    isplitl [Hland]; · iexact Hland
    isplitl [HO]; · iexact HO
    isplitl [Ht1]; · iexact Ht1
    isplitr; · iapply (ctx_reached m K c (.inr (.inl i))); iexact HC
    isplitl [Ht2]; · iexact Ht2
    iapply (ctx_reached m K (peer i c) (.inr (.inr (.inl i)))); iexact HC
  iintro ⟨Hcr, HO⟩
  iapply Hk
  isplitr; · iexact HC
  isplitl [HO]; · rw [owing_eq]; iexists W; iexact HO
  isplitl [HL]; · iexact HL
  isplitl [Hcr Hat HG]
  · isplitl [Hcr Hat]
    · unfold sentKit; isplitl [Hcr] <;> iassumption
    iexact HG
  isplitl [HA]; · iexact HA
  isplitl [HR]; · iexact HR
  isplitl [HZ] <;> iassumption

/-! ## A wait on one of the device's own cells -/

/-- A wait for the whole of a cell of one duty: its payment comes, and the cell is closed. -/
theorem step_cell (c : Dev nD) (o : OIx) {n : ℕ} (hlev : ∀ i ∈ left n, lvOf (.inr o) < lvOf (.inr (.inr (.inl i))))
    {sp sp' : Space} {s : Shape} {e : EltTy} {src : Memref sig .tc sp s e} {dst : Memref sig .tc sp' s e} {q : DmaSem sig}
    (hq : SemLoc.dma q = osem o) (hcr : dst.view.dmaCredit = amtOf (.inr o)) {hsrc : src.view.WordExact} {hdst : dst.view.WordExact}
    {α : Type} {Q : α → sProp 𝕄} {k : PUnit → Prog (TpuEff nD τ sig (Elt F) Λ₀ .tc) α} :
    iprop(ctx m K ∗ owing c (owed c n) ∗ cred (tallyAt (cellAt c (.inr o)) () (amtOf (.inr o))) ∗ atPos ER (cellAt c (.inr o)) 0 ∅ 0)
      ⊢ iprop((owing c (owed c n) ∗ semVal (cellAt c (.inr o)) 0 ∗ payOf m c 0 (.inr o) -∗ run c (k ⟨⟩) Q)
        -∗ run c (.op (.waitDma2 q src dst hsrc hdst) k) Q) := by
  rw [owing_eq]
  iintro ⟨#HC, ⟨%W, HO⟩, Hcr, Hat⟩ Hk
  iapply (Rounds.wp_wait_rest_token 𝒱₀ ER (sched m) (c : Thread nD τ) none (κ := K (c, .inr o)) (sm := osem o) (k' := amtOf (.inr o))
      (by rw [← hq, ← hcr]; exact wpE_waitDma2_eq 𝒱₀ (c : Thread nD τ) none Set.univ) (Set.mem_univ _) () (O := owed c n) (W := W) (R := 0) (m := 0) (T := ∅)
      (by rw [show ((c : Thread nD τ), osem o) = cellAt c (.inr o) from rfl, expect_at]; simp [dutOf])) $$ [Hcr HO Hat]
  · isplitr; · iapply (ctx_inv m K c (.inr o)); iexact HC
    isplitl [Hcr]; · iexact Hcr
    isplitl [HO]; · iexact HO
    isplitr; · iapply (mayWait_left c (.inr o) n hlev); iapply (ctx_lev m K); iexact HC
    iexact Hat
  iintro ⟨HO, Hat, -, Hpay⟩
  ihave Hpay := (Entails.of_eq (show bigSep ((sched m).duties ((c : Thread nD τ), osem o) 0 \ ∅) (fun d => (sched m).payload ((c : Thread nD τ), osem o) 0 d) = _ from rest_own m c o)) $$ Hpay
  imod (Rounds.cell_close ER (sched m) (Set.mem_univ (K (c, .inr o))) (fun h => h) (R := 0 + 1) (duties_later m (cellAt c (.inr o)))) $$ [Hat] with Hz
  · isplitr; · iapply (ctx_inv m K c (.inr o)); iexact HC
    iexact Hat
  iapply Hk
  isplitl [HO]; · iexists _; iexact HO
  isplitl [Hz] <;> iassumption

/-- The wait for an arrival fills its slot. -/
theorem step_recv (c : Dev nD) (i : Snd) {n a a' : ℕ} (ha : arr i.1 (dstFlip i.2) = a) (ha' : arr i.1 (dstFlip i.2) + 1 = a')
    (hc : ∀ k ∈ carries (dstFlip i.2), n ≤ pos (i.1, k)) (hlev : ∀ j ∈ left n, lvOf (.inr (.inr (.inl i))) < lvOf (.inr (.inr (.inl j))))
    {sp sp' : Space} {s : Shape} {e : EltTy} {src : Memref sig .tc sp s e} {dst : Memref sig .tc sp' s e} {q : DmaSem sig}
    (hq : q = recvS i) (hcr : dst.view.dmaCredit = crd i.1) {hsrc : src.view.WordExact} {hdst : dst.view.WordExact}
    {α : Type} {Q : α → sProp 𝕄} {k : PUnit → Prog (TpuEff nD τ sig (Elt F) Λ₀ .tc) α} :
    St m K c n a ⊢ iprop((St m K c n a' -∗ run c (k ⟨⟩) Q) -∗ run c (.op (.waitDma2 q src dst hsrc hdst) k) Q) := by
  subst ha ha' hq
  unfold St
  rw [bag_take (mem_awaited i), awaited_erase, got_succ, bag_add (not_got i), recvKit_eq]
  iintro ⟨#HC, HO, HL, HG, HA, ⟨⟨Hcr, Hat⟩, HR⟩, HZ, HF⟩ Hk
  iapply (step_cell m K c (.inr (.inl i)) hlev rfl hcr) $$ [HO Hcr Hat]
  · isplitr; · iexact HC
    isplitl [HO]; · iexact HO
    isplitl [Hcr]; · iexact Hcr
    iexact Hat
  iintro ⟨HO, Hz, Hs⟩
  ihave H := (pay_deal m c i.1 (dstFlip i.2) n hc) $$ [Hs HA HF]
  · isplitl [Hs]; · unfold payOf recvPay; iexact Hs
    isplitl [HA] <;> iassumption
  icases H with ⟨HA, HF⟩
  iapply Hk
  isplitr; · iexact HC
  isplitl [HO]; · iexact HO
  isplitl [HL]; · iexact HL
  isplitl [HG]; · iexact HG
  isplitl [HA]; · iexact HA
  isplitl [HR]; · iexact HR
  isplitl [HZ Hz]
  · isplitl [Hz]; · iexact Hz
    iexact HZ
  iexact HF

/-! ## Departures -/

/-- When every transfer is issued and the first `n` departures are waited for. -/
def Bk (c : Dev nD) (n : ℕ) : sProp 𝕄 :=
  iprop(ctx m K ∗ owing c (owed c 21) ∗ bigSep (left n) (sentKit c) ∗ bigSep (gone n) (fun i => iprop(semVal (sendCell i c) 0 ∗ sendPay m c i))
    ∗ bigSep Finset.univ (fun i => semVal (recvCell i c) 0) ∗ bigSep Finset.univ (loadPay m c))

theorem St_Bk (c : Dev nD) : St m K c 21 24 ⊢ Bk m K c 0 := by
  unfold St Bk
  rw [left_none, gone_all, avail_end, awaited_none, got_all, filled_all, left_all, gone_none, bigSep_empty, bigSep_empty, bigSep_empty, bigSep_empty]
  iintro ⟨#HC, HO, -, HG, -, -, HZ, HF⟩
  isplitr; · iexact HC
  isplitl [HO]; · iexact HO
  isplitl [HG]; · iexact HG
  isplitr; · iempintro
  isplitl [HZ] <;> iassumption

theorem step_back (c : Dev nD) (i : Snd) {n n' : ℕ} (hn : pos i = n) (hn' : pos i + 1 = n')
    {sp sp' : Space} {s : Shape} {e : EltTy} {src : Memref sig .tc sp s e} {dst : Memref sig .tc sp' s e} {q : DmaSem sig}
    (hq : q = sendS i) (hcr : dst.view.dmaCredit = crd i.1) {hsrc : src.view.WordExact} {hdst : dst.view.WordExact}
    {α : Type} {Q : α → sProp 𝕄} {k : PUnit → Prog (TpuEff nD τ sig (Elt F) Λ₀ .tc) α} :
    Bk m K c n ⊢ iprop((Bk m K c n' -∗ run c (k ⟨⟩) Q) -∗ run c (.op (.waitDma2 q src dst hsrc hdst) k) Q) := by
  subst hn hn' hq
  unfold Bk
  rw [bag_take (mem_left i), left_erase, gone_succ, bag_add (not_gone i), sentKit_eq]
  iintro ⟨#HC, HO, ⟨⟨Hcr, Hat⟩, HL⟩, HG, HZ, HF⟩ Hk
  iapply (step_cell m K c (.inl i) (n := 21) (by rw [left_none]; exact fun _ h => absurd h (Finset.notMem_empty _)) rfl hcr) $$ [HO Hcr Hat]
  · isplitr; · iexact HC
    isplitl [HO]; · iexact HO
    isplitl [Hcr]; · iexact Hcr
    iexact Hat
  iintro ⟨HO, Hz, Hs⟩
  iapply Hk
  isplitr; · iexact HC
  isplitl [HO]; · iexact HO
  isplitl [HL]; · iexact HL
  isplitl [HG Hz Hs]
  · isplitl [Hz Hs]
    · isplitl [Hz]; · iexact Hz
      unfold payOf; iexact Hs
    iexact HG
  isplitl [HZ] <;> iassumption

end Cert.BandGather

end
-- ==== Proof.Slots.lean ====
/-
Reading a filled slot, filling one's own, and the result: its bands, and what storing a band does.
-/
module

public import proofs.«01_k».proof.Proof.Steps

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-! ## A slot through the unit rectangle at its place -/

/-- The slot's elements are those under the rectangle. -/
theorem slot_set0 (σ : Fin 8) (h) : ((Memref.whole cc0_scratch0).access (Rect.unit (s := S8x176x4096) ![σ.val, 0, 0] S1x176x4096.size h)).set = (slotM 0 σ).view.set :=
  (View.set_reshape _ _).symm
theorem slot_set1 (σ : Fin 8) (h) : ((Memref.whole cc0_scratch1).access (Rect.unit (s := S8x168x4096) ![σ.val, 0, 0] S1x168x4096.size h)).set = (slotM 1 σ).view.set :=
  (View.set_reshape _ _).symm
theorem slot_set2 (σ : Fin 8) (h) : ((Memref.whole cc0_scratch2).access (Rect.unit (s := S8x168x4096) ![σ.val, 0, 0] S1x168x4096.size h)).set = (slotM 2 σ).view.set :=
  (View.set_reshape _ _).symm

/-- What the rectangle reads of a filled slot: the rows of the device the slot is for. -/
theorem slot_read0 (σ : Fin 8) (h) : ((Memref.whole cc0_scratch0).access (Rect.unit (s := S8x176x4096) ![σ.val, 0, 0] S1x176x4096.size h)).read (Elt F) (gat m 0 σ) = xrow m (origin 0 σ) 0 := by
  funext x
  have h0 : (x 0).val = 0 := Nat.lt_one_iff.mp (x 0).isLt
  show xrow m (origin 0 ((Rect.unit (s := S8x176x4096) ![σ.val, 0, 0] S1x176x4096.size h).emb x 0)) 0 _ = _
  rw [show (Rect.unit (s := S8x176x4096) ![σ.val, 0, 0] S1x176x4096.size h).emb x 0 = σ from Fin.ext (by rw [Rect.emb_apply]; show σ.val + 1 * (x 0).val = σ.val; omega)]
  congr 1; funext a
  match a with
  | ⟨0, _⟩ => exact Fin.ext h0.symm
  | ⟨1, _⟩ => exact Fin.ext (by show 0 + 1 * (x 1).val = (x 1).val; omega)
  | ⟨2, _⟩ => exact Fin.ext (by show 0 + 1 * (x 2).val = (x 2).val; omega)
theorem slot_read1 (σ : Fin 8) (h) : ((Memref.whole cc0_scratch1).access (Rect.unit (s := S8x168x4096) ![σ.val, 0, 0] S1x168x4096.size h)).read (Elt F) (gat m 1 σ) = xrow m (origin 1 σ) 1 := by
  funext x
  have h0 : (x 0).val = 0 := Nat.lt_one_iff.mp (x 0).isLt
  show xrow m (origin 1 ((Rect.unit (s := S8x168x4096) ![σ.val, 0, 0] S1x168x4096.size h).emb x 0)) 1 _ = _
  rw [show (Rect.unit (s := S8x168x4096) ![σ.val, 0, 0] S1x168x4096.size h).emb x 0 = σ from Fin.ext (by rw [Rect.emb_apply]; show σ.val + 1 * (x 0).val = σ.val; omega)]
  congr 1; funext a
  match a with
  | ⟨0, _⟩ => exact Fin.ext h0.symm
  | ⟨1, _⟩ => exact Fin.ext (by show 0 + 1 * (x 1).val = (x 1).val; omega)
  | ⟨2, _⟩ => exact Fin.ext (by show 0 + 1 * (x 2).val = (x 2).val; omega)
theorem slot_read2 (σ : Fin 8) (h) : ((Memref.whole cc0_scratch2).access (Rect.unit (s := S8x168x4096) ![σ.val, 0, 0] S1x168x4096.size h)).read (Elt F) (gat m 2 σ) = xrow m (origin 2 σ) 2 := by
  funext x
  have h0 : (x 0).val = 0 := Nat.lt_one_iff.mp (x 0).isLt
  show xrow m (origin 2 ((Rect.unit (s := S8x168x4096) ![σ.val, 0, 0] S1x168x4096.size h).emb x 0)) 2 _ = _
  rw [show (Rect.unit (s := S8x168x4096) ![σ.val, 0, 0] S1x168x4096.size h).emb x 0 = σ from Fin.ext (by rw [Rect.emb_apply]; show σ.val + 1 * (x 0).val = σ.val; omega)]
  congr 1; funext a
  match a with
  | ⟨0, _⟩ => exact Fin.ext h0.symm
  | ⟨1, _⟩ => exact Fin.ext (by show 0 + 1 * (x 1).val = (x 1).val; omega)
  | ⟨2, _⟩ => exact Fin.ext (by show 0 + 1 * (x 2).val = (x 2).val; omega)

/-! ## Loads of a filled slot -/

/-- The share of a filled slot that loads go through, taken out and put back. -/
theorem St_borrow (c : Dev nD) (r : Fin 3) (f : Fin 8) {n a : ℕ} (h : arr r f < a) :
    St m K c n a ⊢ iprop(slotPts m c r (slotF r c f) (qload f) ∗ (slotPts m c r (slotF r c f) (qload f) -∗ St m K c n a)) := by
  unfold St
  rw [bag_take (mem_filled h)]
  iintro ⟨#HC, HO, HL, HG, HA, HR, HZ, Hs, HF⟩
  isplitl [Hs]; · unfold loadPay; iexact Hs
  iintro Hs
  isplitr; · iexact HC
  isplitl [HO]; · iexact HO
  isplitl [HL]; · iexact HL
  isplitl [HG]; · iexact HG
  isplitl [HA]; · iexact HA
  isplitl [HR]; · iexact HR
  isplitl [HZ]; · iexact HZ
  isplitl [Hs]; · unfold loadPay; iexact Hs
  iexact HF

theorem step_load (c : Dev nD) (r : Fin 3) (f : Fin 8) {n a : ℕ} (h : arr r f < a) {s : Shape} {mem : Memref sig .tc .vmem s .fp8e4m3} {rr : Rect s}
    {hl : mem.view.LoadsAt rr.toLoadRect} {S : Finset (Idx ((mem.access rr).loc (c : Thread nD τ)))} {g : Buf (Elt F) ((mem.access rr).loc (c : Thread nD τ))}
    {v : rr.shape.Idx → Elt F .fp8e4m3}
    (hP : slotPts m c r (slotF r c f) (qload f) = ((mem.access rr).loc (c : Thread nD τ) ↦[S]{qload f} g))
    (hS : (mem.access rr).set ⊆ S) (hv : (mem.access rr).read (Elt F) g = v)
    {α : Type} {Q : α → sProp 𝕄} {k : (rr.shape.Idx → Elt F .fp8e4m3) → Prog (TpuEff nD τ sig (Elt F) Λ₀ .tc) α} :
    St m K c n a ⊢ iprop((St m K c n a -∗ run c (k v) Q) -∗ run c (.op (.load mem rr.toLoadRect hl) k) Q) := by
  iintro HS Hk
  ihave HS := (St_borrow m K c r f h) $$ HS
  rw [hP]
  icases HS with ⟨Hs, HS⟩
  iapply (wp_load_rect 𝒱₀ (c : Thread nD τ) none Set.univ (m := mem) (r := rr) hS) $$ Hs
  iintro Hs
  rw [hv]
  iapply Hk
  iapply HS
  iexact Hs

theorem load0 (c : Dev nD) (f : Fin 8) {n a : ℕ} (h : arr 0 f < a) {off : Fin 3 → ℕ} {hin} (ho : off = ![(slotF 0 c f).val, 0, 0])
    {hl : (Memref.whole cc0_scratch0).view.LoadsAt (Rect.unit (s := S8x176x4096) off S1x176x4096.size hin).toLoadRect}
    {α : Type} {Q : α → sProp 𝕄} {k : (S1x176x4096.Idx → Elt F .fp8e4m3) → Prog (TpuEff nD τ sig (Elt F) Λ₀ .tc) α} :
    St m K c n a ⊢ iprop((St m K c n a -∗ run c (k (xrow m (origin 0 (slotF 0 c f)) 0)) Q)
      -∗ run c (.op (.load (Memref.whole cc0_scratch0) (Rect.unit (s := S8x176x4096) off S1x176x4096.size hin).toLoadRect hl) k) Q) := by
  subst ho
  exact step_load m K c 0 f h (mem := Memref.whole cc0_scratch0) (rr := Rect.unit (s := S8x176x4096) ![(slotF 0 c f).val, 0, 0] S1x176x4096.size hin) (S := (slotM 0 (slotF 0 c f)).view.set) (g := gat m 0 (slotF 0 c f)) rfl (slot_set0 _ _).subset (slot_read0 m _ _)
theorem load1 (c : Dev nD) (f : Fin 8) {n a : ℕ} (h : arr 1 f < a) {off : Fin 3 → ℕ} {hin} (ho : off = ![(slotF 1 c f).val, 0, 0])
    {hl : (Memref.whole cc0_scratch1).view.LoadsAt (Rect.unit (s := S8x168x4096) off S1x168x4096.size hin).toLoadRect}
    {α : Type} {Q : α → sProp 𝕄} {k : (S1x168x4096.Idx → Elt F .fp8e4m3) → Prog (TpuEff nD τ sig (Elt F) Λ₀ .tc) α} :
    St m K c n a ⊢ iprop((St m K c n a -∗ run c (k (xrow m (origin 1 (slotF 1 c f)) 1)) Q)
      -∗ run c (.op (.load (Memref.whole cc0_scratch1) (Rect.unit (s := S8x168x4096) off S1x168x4096.size hin).toLoadRect hl) k) Q) := by
  subst ho
  exact step_load m K c 1 f h (mem := Memref.whole cc0_scratch1) (rr := Rect.unit (s := S8x168x4096) ![(slotF 1 c f).val, 0, 0] S1x168x4096.size hin) (S := (slotM 1 (slotF 1 c f)).view.set) (g := gat m 1 (slotF 1 c f)) rfl (slot_set1 _ _).subset (slot_read1 m _ _)
theorem load2 (c : Dev nD) (f : Fin 8) {n a : ℕ} (h : arr 2 f < a) {off : Fin 3 → ℕ} {hin} (ho : off = ![(slotF 2 c f).val, 0, 0])
    {hl : (Memref.whole cc0_scratch2).view.LoadsAt (Rect.unit (s := S8x168x4096) off S1x168x4096.size hin).toLoadRect}
    {α : Type} {Q : α → sProp 𝕄} {k : (S1x168x4096.Idx → Elt F .fp8e4m3) → Prog (TpuEff nD τ sig (Elt F) Λ₀ .tc) α} :
    St m K c n a ⊢ iprop((St m K c n a -∗ run c (k (xrow m (origin 2 (slotF 2 c f)) 2)) Q)
      -∗ run c (.op (.load (Memref.whole cc0_scratch2) (Rect.unit (s := S8x168x4096) off S1x168x4096.size hin).toLoadRect hl) k) Q) := by
  subst ho
  exact step_load m K c 2 f h (mem := Memref.whole cc0_scratch2) (rr := Rect.unit (s := S8x168x4096) ![(slotF 2 c f).val, 0, 0] S1x168x4096.size hin) (S := (slotM 2 (slotF 2 c f)).view.set) (g := gat m 2 (slotF 2 c f)) rfl (slot_set2 _ _).subset (slot_read2 m _ _)

/-! ## A device's own slots -/

/-- A load through a slot no one has filled, of whatever it holds. -/
theorem peek (c : Dev nD) (r : Fin 3) (σ : Fin 8) {s : Shape} {mem : Memref sig .tc .vmem s .fp8e4m3} {rr : Rect s}
    {hl : mem.view.LoadsAt rr.toLoadRect} {S : Finset (Idx ((mem.access rr).loc (c : Thread nD τ)))}
    (hP : slotAny (F := F) c r σ = iprop(∃ g, (mem.access rr).loc (c : Thread nD τ) ↦[S]{fullShare} g)) (hS : (mem.access rr).set ⊆ S)
    {α : Type} {Q : α → sProp 𝕄} {k : (rr.shape.Idx → Elt F .fp8e4m3) → Prog (TpuEff nD τ sig (Elt F) Λ₀ .tc) α} :
    slotAny c r σ ⊢ iprop((∀ v, slotAny c r σ -∗ run c (k v) Q) -∗ run c (.op (.load mem rr.toLoadRect hl) k) Q) := by
  rw [hP]
  iintro ⟨%g, Hs⟩ Hk
  iapply (wp_load_rect 𝒱₀ (c : Thread nD τ) none Set.univ (m := mem) (r := rr) hS) $$ Hs
  iintro Hs
  iapply Hk
  iexists g; iexact Hs

/-- A store of what a slot is to hold, through the rectangle at its place, fills it. -/
theorem poke (c : Dev nD) (r : Fin 3) (σ : Fin 8) {s : Shape} {mem : Memref sig .tc .vmem s .fp8e4m3} {rr : Rect s} {w : rr.shape.Idx → Elt F .fp8e4m3}
    {hx : (mem.access rr).Stores Finset.univ} {hm : Finset.univ = Finset.univ ∨ ∀ a, rr.stride a = 1}
    {g : Buf (Elt F) ((mem.access rr).loc (c : Thread nD τ))}
    (hP : slotAny (F := F) c r σ = iprop(∃ g, (mem.access rr).loc (c : Thread nD τ) ↦[(mem.access rr).set]{fullShare} g))
    (hG : slotPts m c r σ fullShare = ((mem.access rr).loc (c : Thread nD τ) ↦[(mem.access rr).set]{fullShare} g))
    (hv : (mem.access rr).read (Elt F) g = w)
    {α : Type} {Q : α → sProp 𝕄} {k : PUnit → Prog (TpuEff nD τ sig (Elt F) Λ₀ .tc) α} :
    slotAny c r σ ⊢ iprop((slotPts m c r σ fullShare -∗ run c (k ⟨⟩) Q) -∗ run c (.op (.store mem rr w Finset.univ hx hm) k) Q) := by
  rw [hP, hG]
  iintro ⟨%f, Hs⟩ Hk
  iapply (wp_store 𝒱₀ (c : Thread nD τ) none Set.univ (m := mem) (r := rr) (Mk := Finset.univ) (S := (mem.access rr).set) (Finset.Subset.refl _)) $$ Hs
  iintro Hs
  subst hv
  iapply Hk
  iapply (Entails.of_eq (pointsTo_congr (write_read_same (F := F) (mem.access rr) f g)))
  iexact Hs

/-! ## Whole buffers -/

/-- A load of a whole buffer through the rectangle of its own sizes. -/
theorem load_all (c : Dev nD) (b : Ref sig .tc) {sp : Space} {s : Shape} {e : EltTy} {q : PosShare TreeShare} {mem : Memref sig .tc .vmem s e} {rr : Rect s}
    {hl : mem.view.LoadsAt rr.toLoadRect} {g : Buf (Elt F) ((mem.access rr).loc (c : Thread nD τ))} {v : rr.shape.Idx → Elt F e} (hv : (mem.access rr).read (Elt F) g = v)
    {α : Type} {Q : α → sProp 𝕄} {k : (rr.shape.Idx → Elt F e) → Prog (TpuEff nD τ sig (Elt F) Λ₀ .tc) α} :
    ((mem.access rr).loc (c : Thread nD τ) ↦{q} g) ⊢ iprop((((mem.access rr).loc (c : Thread nD τ) ↦{q} g) -∗ run c (k v) Q)
      -∗ run c (.op (.load mem rr.toLoadRect hl) k) Q) := by
  iintro H Hk
  iapply (wp_load_rect 𝒱₀ (c : Thread nD τ) none Set.univ (m := mem) (r := rr) (Finset.subset_univ _)) $$ H
  iintro H
  rw [hv]
  iapply Hk; iexact H

/-- The narrowed weight. -/
def wPts (c : Dev nD) : sProp 𝕄 := ((c : Thread nD τ).loc cc0_scratch3) ↦{fullShare} (w8 m c : S4096x256.Idx → Elt F .fp8e4m3)

theorem loadW (c : Dev nD) {hin} {hl : (Memref.whole cc0_scratch3).view.LoadsAt (Rect.unit (s := S4096x256) ![0, 0] S4096x256.size hin).toLoadRect}
    {α : Type} {Q : α → sProp 𝕄} {k : (S4096x256.Idx → Elt F .fp8e4m3) → Prog (TpuEff nD τ sig (Elt F) Λ₀ .tc) α} :
    wPts m c ⊢ iprop((wPts m c -∗ run c (k (w8 m c)) Q)
      -∗ run c (.op (.load (Memref.whole cc0_scratch3) (Rect.unit (s := S4096x256) ![0, 0] S4096x256.size hin).toLoadRect hl) k) Q) := by
  unfold wPts
  exact load_all c cc0_scratch3 (sp := .vmem) (mem := Memref.whole cc0_scratch3) (rr := Rect.unit (s := S4096x256) ![0, 0] S4096x256.size hin)
    (Memref.read_access_unit_zero (Elt F) cc0_scratch3 (by funext a; revert a; decide) hin _)

/-! ## The result's bands -/

/-- How many rows band `r` has, of each device's 512, and the shape of its piece of the result. -/
def osz : Fin 3 → ℕ := ![176, 168, 168]
abbrev oshp : Fin 3 → Shape
  | 0 => S176x256
  | 1 => S168x256
  | 2 => S168x256

/-- A band's rows times the weight's columns, times the scales' product `sc`. -/
def bandVal (sc : F .f32) : (r : Fin 3) → ((shp1 r).Idx → Elt F .fp8e4m3) → Vec F S4096x256 .fp8e4m3 → (oshp r).Idx → Elt F .f32
  | 0 => k0_pay10 sc
  | 1 => k0_pay8 sc
  | 2 => k0_pay9 sc

/-- The band of a row of the result, and the device the row comes from. -/
def bandR (i : S4096x256.Idx) : Fin 3 := if (i 0).val % 512 < 176 then 0 else if (i 0).val % 512 < 344 then 1 else 2
def bandO (i : S4096x256.Idx) : Fin 8 := ⟨(i 0).val / 512, by have h : (i 0).val < 4096 := (i 0).isLt; omega⟩
/-- The place of that band's piece in the order in which device `c` computes them. -/
def num (c : Dev nD) (i : S4096x256.Idx) : ℕ := arr (bandR i) (slot (bandR i) c ^^^ slot (bandR i) (bandO i))

/-- The index of row `t` of a band's piece, at column `j`. -/
def oidx : (r : Fin 3) → (t : ℕ) → t < osz r → Fin 256 → (oshp r).Idx
  | 0, t, h, j => fun | ⟨0, _⟩ => ⟨t, h⟩ | ⟨1, _⟩ => j
  | 1, t, h, j => fun | ⟨0, _⟩ => ⟨t, h⟩ | ⟨1, _⟩ => j
  | 2, t, h, j => fun | ⟨0, _⟩ => ⟨t, h⟩ | ⟨1, _⟩ => j

theorem row_lt (i : S4096x256.Idx) : (i 0).val - outRow (bandR i) (bandO i) < osz (bandR i) := by
  have h : (i 0).val < 4096 := (i 0).isLt
  unfold bandR outRow osz bandO
  split_ifs with h1 h2
  · show (i 0).val - ((i 0).val / 512 * 512 + 0) < 176; omega
  · show (i 0).val - ((i 0).val / 512 * 512 + 176) < 168; omega
  · show (i 0).val - ((i 0).val / 512 * 512 + 344) < 168; omega

/-- What device `c` is to compute. -/
def outAt (sc : F .f32) (c : Dev nD) : S4096x256.Idx → Elt F .f32 := fun i =>
  bandVal sc (bandR i) (xrow m (bandO i) (bandR i)) (w8 m c) (oidx (bandR i) ((i 0).val - outRow (bandR i) (bandO i)) (row_lt i) (i 1))

/-- The result's buffer once the first `g` pieces are in it. -/
def outPts (sc : F .f32) (c : Dev nD) (g : ℕ) : sProp 𝕄 :=
  iprop(∃ f : S4096x256.Idx → Elt F .f32, ⌜∀ i, num c i < g → f i = outAt m sc c i⌝ ∗ ((c : Thread nD τ).loc cc0_stg2_0) ↦{fullShare} f)

theorem slot_xor (r : Fin 3) (c o : Dev nD) (f : Fin 8) : slot r c ^^^ slot r o = f ↔ o = origin r (slotF r c f) := by
  revert r c o f; decide +kernel

/-- The rows of the piece of band `r` from device `o`. -/
theorem band_iff (r : Fin 3) (o : Dev nD) (i : S4096x256.Idx) : (outRow r o ≤ (i 0).val ∧ (i 0).val < outRow r o + osz r) ↔ (bandR i = r ∧ bandO i = o) := by
  have h : (i 0).val < 4096 := (i 0).isLt
  have ho : o.val < 8 := o.isLt
  rw [Fin.ext_iff (a := bandO i)]
  unfold bandR outRow osz bandO
  match r with
  | 0 =>
    show (o.val * 512 + 0 ≤ _ ∧ _ < o.val * 512 + 0 + 176) ↔ _
    split_ifs with h1 h2 <;> simp <;> omega
  | 1 =>
    show (o.val * 512 + 176 ≤ _ ∧ _ < o.val * 512 + 176 + 168) ↔ _
    split_ifs with h1 h2 <;> simp <;> omega
  | 2 =>
    show (o.val * 512 + 344 ≤ _ ∧ _ < o.val * 512 + 344 + 168) ↔ _
    split_ifs with h1 h2 <;> simp <;> omega

theorem num_iff (c : Dev nD) (r : Fin 3) (f : Fin 8) (i : S4096x256.Idx) :
    num c i = arr r f ↔ (outRow r (origin r (slotF r c f)) ≤ (i 0).val ∧ (i 0).val < outRow r (origin r (slotF r c f)) + osz r) := by
  rw [band_iff]
  unfold num
  refine ⟨fun h => ?_, fun ⟨h1, h2⟩ => ?_⟩
  · have e := arr_inj h
    have e1 := congrArg Prod.fst e
    have e2 := congrArg Prod.snd e
    dsimp only at e1 e2
    rw [e1] at e2
    exact ⟨e1, (slot_xor r c _ f).mp e2⟩
  · rw [h1, (slot_xor r c _ f).mpr h2]

theorem num_lt (c : Dev nD) (i : S4096x256.Idx) : num c i < 24 := by
  unfold num arr; omega

/-- When every piece is in, the result is what the device is to compute. -/
theorem outPts_all (sc : F .f32) (c : Dev nD) : outPts m sc c 24 ⊢ (((c : Thread nD τ).loc cc0_stg2_0) ↦{fullShare} (outAt m sc c : S4096x256.Idx → Elt F .f32)) := by
  unfold outPts
  iintro ⟨%f, %h, H⟩
  rw [show f = outAt m sc c from funext fun i => h i (num_lt c i)]
  iexact H

/-- A load of the result's buffer, of whatever it holds. -/
theorem peekO (sc : F .f32) (c : Dev nD) {g : ℕ} {rr : Rect S4096x256} {hl : (Memref.whole cc0_stg2_0).view.LoadsAt rr.toLoadRect}
    {α : Type} {Q : α → sProp 𝕄} {k : (rr.shape.Idx → Elt F .f32) → Prog (TpuEff nD τ sig (Elt F) Λ₀ .tc) α} :
    outPts m sc c g ⊢ iprop((∀ v, outPts m sc c g -∗ run c (k v) Q) -∗ run c (.op (.load (Memref.whole cc0_stg2_0) rr.toLoadRect hl) k) Q) := by
  unfold outPts
  iintro ⟨%f, %h, H⟩ Hk
  iapply (wp_load_rect 𝒱₀ (c : Thread nD τ) none Set.univ (m := Memref.whole cc0_stg2_0) (r := rr) (Finset.subset_univ _)) $$ H
  iintro H
  iapply Hk
  iexists f
  isplitr; · ipureintro; exact h
  iexact H

/-- A store of a piece through the rectangle of its rows. -/
theorem step_out (sc : F .f32) (c : Dev nD) (r : Fin 3) (f : Fin 8) {g g' : ℕ} (hg : arr r f = g) (hg' : arr r f + 1 = g') {rr : Rect S4096x256}
    {w : rr.shape.Idx → Elt F .f32} {hx : ((Memref.whole cc0_stg2_0).access rr).Stores Finset.univ} {hm : Finset.univ = Finset.univ ∨ ∀ a, rr.stride a = 1}
    (hmem : ∀ i : S4096x256.Idx, num c i = arr r f ↔ i ∈ rr.set)
    (hw : ∀ y, outAt m sc c (rr.emb y) = w y)
    {α : Type} {Q : α → sProp 𝕄} {k : PUnit → Prog (TpuEff nD τ sig (Elt F) Λ₀ .tc) α} :
    outPts m sc c g ⊢ iprop((outPts m sc c g' -∗ run c (k ⟨⟩) Q) -∗ run c (.op (.store (Memref.whole cc0_stg2_0) rr w Finset.univ hx hm) k) Q) := by
  subst hg hg'
  unfold outPts
  iintro ⟨%b, %h, H⟩ Hk
  iapply (wp_store 𝒱₀ (c : Thread nD τ) none Set.univ (m := Memref.whole cc0_stg2_0) (r := rr) (Mk := Finset.univ) (S := Finset.univ) (Finset.subset_univ _)) $$ H
  iintro H
  iapply Hk
  iexists _
  isplitr; swap; · iexact H
  ipureintro
  intro i hi
  by_cases hr : i ∈ rr.set
  · rw [← Rect.map_emb_univ] at hr
    obtain ⟨y, -, rfl⟩ := Finset.mem_map.mp hr
    rw [hw y]
    exact View.write_emb_of_mem (v := (Memref.whole cc0_stg2_0).access rr) (Val := Elt F) b w (Finset.mem_univ y)
  · rw [← h i (by have := mt (hmem i).mp hr; omega)]
    exact View.write_of_not_mem (v := (Memref.whole cc0_stg2_0).access rr) (Val := Elt F) b w Finset.univ
      (by rw [View.setOn_univ]; exact fun hh => hr (by rwa [View.set_slice_whole] at hh))

theorem mem_rows {off size : Fin 2 → ℕ} {h : ∀ a, off a + size a ≤ S4096x256.size a} {o n : ℕ} (ho : off = ![o, 0]) (hs : size = ![n, 256]) (i : S4096x256.Idx) :
    (o ≤ (i 0).val ∧ (i 0).val < o + n) ↔ i ∈ (Rect.unit (s := S4096x256) off size h).set := by
  subst ho hs
  rw [Rect.mem_set_unit]
  refine ⟨fun hi a => ?_, fun hi => hi 0⟩
  match a with
  | ⟨0, _⟩ => exact hi
  | ⟨1, _⟩ => exact ⟨Nat.zero_le _, by show (i 1).val < 0 + 256; have : (i 1).val < 256 := (i 1).isLt; omega⟩

/-- What the result is at an element of band `r`'s piece from device `o`. -/
theorem outAt_at (sc : F .f32) (c o : Dev nD) (r : Fin 3) (i : S4096x256.Idx) {t : ℕ} (ht : t < osz r) (hi : (i 0).val = outRow r o + t) :
    outAt m sc c i = bandVal sc r (xrow m o r) (w8 m c) (oidx r t ht (i 1)) := by
  obtain ⟨hr, ho⟩ := (band_iff r o i).mp ⟨by omega, by omega⟩
  subst hr ho
  unfold outAt
  congr 2
  omega

theorem store0 (sc : F .f32) (c : Dev nD) (f : Fin 8) {g g' : ℕ} (hg : arr 0 f = g) (hg' : arr 0 f + 1 = g') {off : Fin 2 → ℕ} {hin}
    (ho : off = ![outRow 0 (origin 0 (slotF 0 c f)), 0]) {w : S176x256.Idx → Elt F .f32} (hw : w = bandVal sc 0 (xrow m (origin 0 (slotF 0 c f)) 0) (w8 m c))
    {hx : ((Memref.whole cc0_stg2_0).access (Rect.unit (s := S4096x256) off S176x256.size hin)).Stores Finset.univ} {hm}
    {α : Type} {Q : α → sProp 𝕄} {k : PUnit → Prog (TpuEff nD τ sig (Elt F) Λ₀ .tc) α} :
    outPts m sc c g ⊢ iprop((outPts m sc c g' -∗ run c (k ⟨⟩) Q)
      -∗ run c (.op (.store (Memref.whole cc0_stg2_0) (Rect.unit (s := S4096x256) off S176x256.size hin) w Finset.univ hx hm) k) Q) := by
  subst ho hw
  refine step_out m sc c 0 f hg hg' (fun i => (num_iff c 0 f i).trans (mem_rows rfl rfl i)) fun y => ?_
  refine (outAt_at m sc c (origin 0 (slotF 0 c f)) 0 _ (t := (y 0).val) (y 0).isLt (by rw [Rect.emb_apply]; show outRow _ _ + 1 * (y 0).val = _; omega)).trans ?_
  congr 1; funext a
  match a with
  | ⟨0, _⟩ => rfl
  | ⟨1, _⟩ => exact Fin.ext (by show 0 + 1 * (y 1).val = (y 1).val; omega)
theorem store1 (sc : F .f32) (c : Dev nD) (f : Fin 8) {g g' : ℕ} (hg : arr 1 f = g) (hg' : arr 1 f + 1 = g') {off : Fin 2 → ℕ} {hin}
    (ho : off = ![outRow 1 (origin 1 (slotF 1 c f)), 0]) {w : S168x256.Idx → Elt F .f32} (hw : w = bandVal sc 1 (xrow m (origin 1 (slotF 1 c f)) 1) (w8 m c))
    {hx : ((Memref.whole cc0_stg2_0).access (Rect.unit (s := S4096x256) off S168x256.size hin)).Stores Finset.univ} {hm}
    {α : Type} {Q : α → sProp 𝕄} {k : PUnit → Prog (TpuEff nD τ sig (Elt F) Λ₀ .tc) α} :
    outPts m sc c g ⊢ iprop((outPts m sc c g' -∗ run c (k ⟨⟩) Q)
      -∗ run c (.op (.store (Memref.whole cc0_stg2_0) (Rect.unit (s := S4096x256) off S168x256.size hin) w Finset.univ hx hm) k) Q) := by
  subst ho hw
  refine step_out m sc c 1 f hg hg' (fun i => (num_iff c 1 f i).trans (mem_rows rfl rfl i)) fun y => ?_
  refine (outAt_at m sc c (origin 1 (slotF 1 c f)) 1 _ (t := (y 0).val) (y 0).isLt (by rw [Rect.emb_apply]; show outRow _ _ + 1 * (y 0).val = _; omega)).trans ?_
  congr 1; funext a
  match a with
  | ⟨0, _⟩ => rfl
  | ⟨1, _⟩ => exact Fin.ext (by show 0 + 1 * (y 1).val = (y 1).val; omega)
theorem store2 (sc : F .f32) (c : Dev nD) (f : Fin 8) {g g' : ℕ} (hg : arr 2 f = g) (hg' : arr 2 f + 1 = g') {off : Fin 2 → ℕ} {hin}
    (ho : off = ![outRow 2 (origin 2 (slotF 2 c f)), 0]) {w : S168x256.Idx → Elt F .f32} (hw : w = bandVal sc 2 (xrow m (origin 2 (slotF 2 c f)) 2) (w8 m c))
    {hx : ((Memref.whole cc0_stg2_0).access (Rect.unit (s := S4096x256) off S168x256.size hin)).Stores Finset.univ} {hm}
    {α : Type} {Q : α → sProp 𝕄} {k : PUnit → Prog (TpuEff nD τ sig (Elt F) Λ₀ .tc) α} :
    outPts m sc c g ⊢ iprop((outPts m sc c g' -∗ run c (k ⟨⟩) Q)
      -∗ run c (.op (.store (Memref.whole cc0_stg2_0) (Rect.unit (s := S4096x256) off S168x256.size hin) w Finset.univ hx hm) k) Q) := by
  subst ho hw
  refine step_out m sc c 2 f hg hg' (fun i => (num_iff c 2 f i).trans (mem_rows rfl rfl i)) fun y => ?_
  refine (outAt_at m sc c (origin 2 (slotF 2 c f)) 2 _ (t := (y 0).val) (y 0).isLt (by rw [Rect.emb_apply]; show outRow _ _ + 1 * (y 0).val = _; omega)).trans ?_
  congr 1; funext a
  match a with
  | ⟨0, _⟩ => rfl
  | ⟨1, _⟩ => exact Fin.ext (by show 0 + 1 * (y 1).val = (y 1).val; omega)

end Cert.BandGather

end
-- ==== Proof.Parts0.lean ====
/-
How the parts of the kernel's text are read: each as a step between states.
-/
module

public import proofs.«01_k».proof.Proof.Slots

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A part of the kernel on the buffers and semaphores the kernel is launched with. -/
abbrev atBufs {β : Sort*}
    (f : (arg0 : Memref sig .tc .hbm S512x4096 .f32) → arg0.IsWhole → (arg1 : Memref sig .tc .hbm S4096x256 .f32) → arg1.IsWhole →
      (arg2 : Memref sig .tc .smem S1 .f32) → arg2.IsWhole → (arg3 : Memref sig .tc .smem S1 .f32) → arg3.IsWhole →
      (arg4 : Memref sig .tc .vmem S4096x256 .f32) → arg4.IsWhole → (arg5 : Memref sig .tc .vmem S8x176x4096 .fp8e4m3) → arg5.IsWhole →
      (arg6 : Memref sig .tc .vmem S8x168x4096 .fp8e4m3) → arg6.IsWhole → (arg7 : Memref sig .tc .vmem S8x168x4096 .fp8e4m3) → arg7.IsWhole →
      (arg8 : Memref sig .tc .vmem S4096x256 .fp8e4m3) → arg8.IsWhole → (arg9 : Memref sig .tc .vmem S176x4096 .f32) → arg9.IsWhole →
      (arg10 : Memref sig .tc .vmem S168x4096 .f32) → arg10.IsWhole → (arg11 : Memref sig .tc .vmem S168x4096 .f32) → arg11.IsWhole →
      (arg12 : Memref sig .tc .vmem S4096x256 .f32) → arg12.IsWhole → DmaSems sig S21 → DmaSems sig S21 → DmaSems sig S4 → β) : β :=
  f (Memref.whole main_arg0) (Memref.isWhole_whole _) (Memref.whole main_arg1) (Memref.isWhole_whole _) (Memref.whole cc0_stg0_0) (Memref.isWhole_whole _)
    (Memref.whole cc0_stg1_0) (Memref.isWhole_whole _) (Memref.whole cc0_stg2_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    (Memref.whole cc0_scratch7) (Memref.isWhole_whole _) cc0_scratch8 cc0_scratch9 cc0_scratch10

/-- A part and what comes after it. -/
theorem part_bind (c : Dev nD) {α β : Type} {p : Prog (TpuEff nD τ sig (Elt F) Λ₀ .tc) α} {f : α → Prog (TpuEff nD τ sig (Elt F) Λ₀ .tc) β}
    {P : sProp 𝕄} {Q' : α → sProp 𝕄} {Q : β → sProp 𝕄} (h1 : P ⊢ run c p Q') (h2 : ∀ v, Q' v ⊢ run c (f v) Q) : P ⊢ run c (p >>= f) Q := by
  refine BI.Entails.trans h1 (BI.Entails.trans (wp_mono _ _ _ h2) ?_)
  exact Entails.of_eq (wp_bind ..).symm

/-- The end of a part. -/
theorem part_ret (c : Dev nD) {α : Type} {v : α} {P : sProp 𝕄} {Q : α → sProp 𝕄} (h : P ⊢ Q v) : P ⊢ run c (.ret v) Q := by
  iintro H
  rw [run, wp_ret]
  imodintro
  iapply h
  iexact H

/-! ## One step of three resources -/

/-- A step that uses and gives back the first. -/
theorem onS {P P' W A B : sProp 𝕄} (h : P ⊢ iprop((P' -∗ A) -∗ B)) (h' : iprop(P' ∗ W) ⊢ A) : iprop(P ∗ W) ⊢ B := by
  iintro ⟨HP, HW⟩
  iapply h $$ HP
  iintro HP
  iapply h'
  isplitl [HP] <;> iassumption
/-- A step that uses the second and keeps it. -/
theorem onW {P W O A B : sProp 𝕄} (h : W ⊢ iprop((W -∗ A) -∗ B)) (h' : iprop(P ∗ W ∗ O) ⊢ A) : iprop(P ∗ W ∗ O) ⊢ B := by
  iintro ⟨HP, HW, HO⟩
  iapply h $$ HW
  iintro HW
  iapply h'
  isplitl [HP]; · iexact HP
  isplitl [HW] <;> iassumption
/-- A step that uses the third and keeps it, with whatever it read. -/
theorem onP {ι : Type} {P W O B : sProp 𝕄} {A' : ι → sProp 𝕄} (h : O ⊢ iprop((∀ v, O -∗ A' v) -∗ B)) (h' : ∀ v, iprop(P ∗ W ∗ O) ⊢ A' v) : iprop(P ∗ W ∗ O) ⊢ B := by
  iintro ⟨HP, HW, HO⟩
  iapply h $$ HO
  iintro %v HO
  iapply (h' v)
  isplitl [HP]; · iexact HP
  isplitl [HW] <;> iassumption
/-- A step that uses the third and gives another in its place. -/
theorem onO {P W O O' A B : sProp 𝕄} (h : O ⊢ iprop((O' -∗ A) -∗ B)) (h' : iprop(P ∗ W ∗ O') ⊢ A) : iprop(P ∗ W ∗ O) ⊢ B := by
  iintro ⟨HP, HW, HO⟩
  iapply h $$ HO
  iintro HO
  iapply h'
  isplitl [HP]; · iexact HP
  isplitl [HW] <;> iassumption

theorem with_fact {φ : Prop} {P : sProp 𝕄} (h : φ) : P ⊢ iprop(⌜φ⌝ ∗ P) := by
  iintro HP
  isplitr; · ipureintro; exact h
  iexact HP
theorem by_fact {φ : Prop} {P A : sProp 𝕄} (h : φ → (P ⊢ A)) : iprop(⌜φ⌝ ∗ P) ⊢ A := by
  iintro ⟨%hφ, HP⟩
  iapply (h hφ)
  iexact HP

/-- The state of the main stretch: besides the exchange's, the weight and the result with `g` pieces in it. -/
abbrev Mid (sc : F .f32) (c : Dev nD) (n a g : ℕ) : sProp 𝕄 := iprop(St m K c n a ∗ wPts m c ∗ outPts m sc c g)

/-- The band of the product that device `c` computes from the rows in the slot at difference `f`. -/
abbrev piece (sc : F .f32) (c : Dev nD) (r : Fin 3) (f : Fin 8) : (oshp r).Idx → Elt F .f32 :=
  bandVal sc r (xrow m (origin r (slotF r c f)) r) (w8 m c)

end Cert.BandGather

end
-- ==== Proof.Start.lean ====
/-
The kernel's first stretch: the barrier, the local copies, the device's own slots, and the first transfers.
-/
module

public import proofs.«01_k».proof.Proof.Parts0

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-! ## The barrier -/

/-- The slots of device `c` that its neighbour along axis `a` fills. -/
def give (c : Dev nD) (a : Fin 3) : sProp 𝕄 := bigSep (Finset.univ.filter fun i : Snd => dirOf i = a) fun i => slotAny c i.1 (slotF i.1 c (dstFlip i.2))
/-- What the signal to the neighbour along axis `a` takes: the right to pay, and those slots. -/
def sigKit (c : Dev nD) (a : Fin 3) : sProp 𝕄 := iprop(dutyTok ER (barCell (nbr a c)) 0 a ∗ give c a)
/-- What the wait on the device's own barrier takes. -/
def barWait (c : Dev nD) : sProp 𝕄 := iprop(cred (tallyAt (barCell c) () 3) ∗ atPos ER (barCell c) 0 ∅ 0)
/-- For a transfer whose landing slot has not been handed over: the rights to pay its two cells, and its place at its own. -/
def sendKit0 (c : Dev nD) (i : Snd) : sProp 𝕄 :=
  iprop(dutyTok ER (sendCell i c) 0 0 ∗ dutyTok ER (recvCell i (peer i c)) 0 0 ∗ atPos ER (sendCell i c) 0 ∅ 0)

omit [FloatOps F] in
/-- Those slots are what the neighbour's barrier is to hand over. -/
theorem give_eq (c : Dev nD) (a : Fin 3) : give (F := F) c a = barPay (nbr a c) a := by
  unfold give barPay
  refine bigSep_congr fun i hi => ?_
  have h : dirOf i = a := (Finset.mem_filter.mp hi).2
  subst h
  show _ = landing (peer i c) i
  unfold landing
  rw [peer_peer, ← slotF_peer i (peer i c), peer_peer]

omit [FloatOps F] in
/-- With the slots handed over, the transfers can go. -/
theorem sendKit_join (c : Dev nD) : iprop(bigSep Finset.univ (sendKit0 (F := F) c) ∗ bigSep Finset.univ (landing c)) ⊢ bigSep Finset.univ (sendKit c) := by
  refine BI.Entails.trans (Entails.of_eq (bigSep_sep Finset.univ (sendKit0 c) (landing c)).symm) (bigSep_mono fun i _ => ?_)
  show iprop(sendKit0 c i ∗ landing c i) ⊢ sendKit c i
  unfold sendKit sendKit0
  iintro ⟨⟨H1, H2, H3⟩, H4⟩
  isplitl [H1]; · iexact H1
  isplitl [H2]; · iexact H2
  isplitl [H3] <;> iassumption

theorem step_signal (c : Dev nD) (a : Fin 3) {O O' : CellTallies nD τ sig Unit} (hO : O' = O + tallyAt (barCell (nbr a c)) () 1)
    {d : Dev nD} (hd : d = nbr a c) {s : Sem sig} (hs : s = barS)
    {α : Type} {Q : α → sProp 𝕄} {k : PUnit → Prog (TpuEff nD τ sig (Elt F) Λ₀ .tc) α} :
    iprop(ctx m K ∗ owing c O' ∗ sigKit c a) ⊢ iprop((owing c O -∗ run c (k ⟨⟩) Q)
      -∗ run c (.op (.semSignal (Dev.tc d : Thread nD τ) s (1#32 : BitVec 32).toInt) k) Q) := by
  subst hd hs
  rw [show (1#32 : BitVec 32).toInt = ((1 : ℕ) : Int) from rfl]
  unfold sigKit
  rw [owing_eq c O', give_eq]
  iintro ⟨#HC, ⟨%W, HO⟩, Ht, Hg⟩ Hk
  iapply (Rounds.wp_signal 𝒱₀ ER (sched m) (c : Thread nD τ) none (dst := (nbr a c : Thread nD τ)) (sem := barS) (r := 0) (k' := 1) (κ := K (nbr a c, .inl ()))
      (d := a) (by rw [show ((nbr a c : Thread nD τ), SemLoc.reg barS) = barCell (nbr a c) from rfl, duties_at]; exact Finset.mem_univ _) (amount_at m (nbr a c) (.inl ()) a) () O hO) $$ [HO Ht Hg]
  · isplitr; · iapply (ctx_inv m K (nbr a c) (.inl ())); iexact HC
    isplitl [HO]; · iexact HO
    isplitl [Ht]; · iexact Ht
    isplitl [Hg]
    · rw [show (sched m).payload ((nbr a c : Thread nD τ), SemLoc.reg barS) 0 a = barPay (nbr a c) a from payload_at m (nbr a c) (.inl ()) a]; iexact Hg
    iapply (ctx_reached m K (nbr a c) (.inl ())); iexact HC
  iintro HO
  iapply Hk
  rw [owing_eq]; iexists W; iexact HO

/-- When the three neighbours have signalled, every slot the device fills is its own to fill: the exchange can begin. -/
theorem step_bar (c : Dev nD) {s : Sem sig} (hs : s = barS) {α : Type} {Q : α → sProp 𝕄} {k : PUnit → Prog (TpuEff nD τ sig (Elt F) Λ₀ .tc) α} :
    iprop(ctx m K ∗ owing c (owed c 0) ∗ barWait c ∗ bigSep Finset.univ (sendKit0 c) ∗ bigSep Finset.univ (recvKit c))
      ⊢ iprop((St m K c 0 0 ∗ semVal (barCell c) 0 -∗ run c (k ⟨⟩) Q) -∗ run c (.op (.semWait s (3#32 : BitVec 32).toInt) k) Q) := by
  subst hs
  rw [show (3#32 : BitVec 32).toInt = ((3 : ℕ) : Int) from rfl]
  unfold barWait
  rw [owing_eq]
  iintro ⟨#HC, ⟨%W, HO⟩, ⟨Hcr, Hat⟩, HS, HR⟩ Hk
  iapply (Rounds.wp_wait_rest_token 𝒱₀ ER (sched m) (c : Thread nD τ) none (κ := K (c, .inl ())) (k' := 3)
      (wpE_semWait_eq 𝒱₀ (c : Thread nD τ) none Set.univ) (Set.mem_univ _) () (O := owed c 0) (W := W) (R := 0) (m := 0) (T := ∅)
      (by rw [show ((c : Thread nD τ), SemLoc.reg barS) = barCell c from rfl, expect_at]; rfl)) $$ [Hcr HO Hat]
  · isplitr; · iapply (ctx_inv m K c (.inl ())); iexact HC
    isplitl [Hcr]; · iexact Hcr
    isplitl [HO]; · iexact HO
    isplitr; · iapply (mayWait_left c (.inl ()) 0 (by decide)); iapply (ctx_lev m K); iexact HC
    iexact Hat
  iintro ⟨HO, Hat, -, Hpay⟩
  ihave Hpay := (Entails.of_eq (show bigSep ((sched m).duties ((c : Thread nD τ), SemLoc.reg barS) 0 \ ∅) (fun d => (sched m).payload ((c : Thread nD τ), SemLoc.reg barS) 0 d) = _ from rest_bar m c)) $$ Hpay
  imod (Rounds.cell_close ER (sched m) (Set.mem_univ (K (c, .inl ()))) (fun h => h) (R := 0 + 1) (duties_later m (barCell c))) $$ [Hat] with Hz
  · isplitr; · iapply (ctx_inv m K c (.inl ())); iexact HC
    iexact Hat
  iapply Hk
  isplitr [Hz]; swap; · iexact Hz
  unfold St
  rw [left_all, gone_none, avail_none, awaited_own (by omega : (0 : ℕ) ≤ 3), got_own (by omega : (0 : ℕ) ≤ 3), filled_none, bigSep_empty, bigSep_empty, bigSep_empty, bigSep_empty]
  isplitr; · iexact HC
  isplitl [HO]; · rw [owing_eq]; iexists _; iexact HO
  isplitl [HS Hpay]
  · iapply (sendKit_join c)
    isplitl [HS] <;> iassumption
  isplitr; · iempintro
  isplitr; · iempintro
  isplitl [HR]; · iexact HR
  isplitr <;> iempintro

/-! ## The local copies -/

/-- For local copy `l`, before it is issued. -/
def locKit (c : Dev nD) (l : Fin 4) : sProp 𝕄 :=
  iprop(dutyTok ER (locCell l c) 0 0 ∗ atPos ER (locCell l c) 0 ∅ 0 ∗ lsrcPts m c l ∗ ∃ f, ldstAt c l f)
/-- While it is under way. -/
def locRun (c : Dev nD) (l : Fin 4) : sProp 𝕄 := iprop(cred (tallyAt (locCell l c) () (lcrd l)) ∗ atPos ER (locCell l c) 0 ∅ 0)
/-- When it is done. -/
def locDone (c : Dev nD) (l : Fin 4) : sProp 𝕄 := iprop(semVal (locCell l c) 0 ∗ ldstAt c l (lland m c l) ∗ lsrcPts m c l)

theorem step_copy (c : Dev nD) (l : Fin 4) {src : Memref sig .tc .hbm (lshp l) .f32} {dst : Memref sig .tc .vmem (lshp l) .f32} {q : DmaSem sig}
    (hs : src = lsrc l) (ht : dst = ldst l) (hq : q = locS l) {hsrc : src.view.WordExact} {hdst : dst.view.WordExact}
    {hsem : DmaTarget.Typed .hbm (.dma q) (DmaTarget.here (nD := nD) (p := (c : Thread nD τ).2) dst)}
    {α : Type} {Q : α → sProp 𝕄} {k : PUnit → Prog (TpuEff nD τ sig (Elt F) Λ₀ .tc) α} :
    iprop(ctx m K ∗ locKit m c l) ⊢ iprop((locRun c l -∗ run c (k ⟨⟩) Q) -∗ run c (.op (.enqueueDma src (.here dst) (.dma q) hsrc hdst hsem) k) Q) := by
  subst hs ht hq
  unfold locKit
  iintro ⟨#HC, Ht, Hat, Hs, ⟨%f, Hd⟩⟩ Hk
  iapply (Rounds.wp_copy_pointsTo (Q := Q) (k := k) (defs := defs₀ (F := F)) (Es := Set.univ) 𝒱₀ ER (sched m) (c : Thread nD τ) none (src := lsrc l) (dst := ldst l) (sem := .dma (locS l))
      (hsrc := hsrc) (hdst := hdst) (hsem := hsem) (q := fullShare) (fs := lmem m c l) (fd := f) (r := 0) (d := 0) (κ := K (c, .inr (.inr (.inr l))))
      (by rw [show ((c : Thread nD τ), SemLoc.dma (locS l)) = locCell l c from rfl, duties_at]; exact Finset.mem_singleton_self _) () (lcrd l) rfl
      (amount_at m c (.inr (.inr (.inr l))) 0)
      (by
        rw [show (sched m).payload ((c : Thread nD τ), SemLoc.dma (locS l)) 0 0 = locPay m c l from payload_at m c (.inr (.inr (.inr l))) 0]
        unfold locPay ldstAt lsrcPts
        rw [show (lsrc l).view.read (Elt F) (lmem m c l) = lval m c l from rfl, lland_write])) $$ [Ht Hs Hd]
  · isplitr; · iapply (ctx_inv m K c (.inr (.inr (.inr l)))); iexact HC
    isplitl [Hs]; · unfold lsrcPts; iexact Hs
    isplitl [Hd]; · unfold ldstAt; iexact Hd
    isplitl [Ht]; · iexact Ht
    iapply (ctx_reached m K c (.inr (.inr (.inr l)))); iexact HC
  iintro Hcr
  iapply Hk
  unfold locRun
  isplitl [Hcr]; · iexact Hcr
  iexact Hat

theorem step_loc (c : Dev nD) (l : Fin 4) {n a : ℕ} {sp sp' : Space} {s : Shape} {e : EltTy} {src : Memref sig .tc sp s e} {dst : Memref sig .tc sp' s e} {q : DmaSem sig}
    (hq : q = locS l) (hcr : dst.view.dmaCredit = lcrd l) {hsrc : src.view.WordExact} {hdst : dst.view.WordExact}
    {α : Type} {Q : α → sProp 𝕄} {k : PUnit → Prog (TpuEff nD τ sig (Elt F) Λ₀ .tc) α} :
    iprop(St m K c n a ∗ locRun c l) ⊢ iprop((St m K c n a ∗ locDone m c l -∗ run c (k ⟨⟩) Q) -∗ run c (.op (.waitDma2 q src dst hsrc hdst) k) Q) := by
  subst hq
  unfold St locRun
  iintro ⟨⟨#HC, HO, HS⟩, Hcr, Hat⟩ Hk
  iapply (step_cell m K c (.inr (.inr l)) (n := n) (fun i _ => (by decide : ∀ i : Snd, 0 < lvOf (.inr (.inr (.inl i)))) i) rfl hcr) $$ [HO Hcr Hat]
  · isplitr; · iexact HC
    isplitl [HO]; · iexact HO
    isplitl [Hcr]; · iexact Hcr
    iexact Hat
  iintro ⟨HO, Hz, Hp⟩
  iapply Hk
  isplitl [HO HS]
  · isplitr; · iexact HC
    isplitl [HO]; · iexact HO
    iexact HS
  unfold locDone payOf locPay
  isplitl [Hz]; · iexact Hz
  iexact Hp
theorem load_land (c : Dev nD) (l : Fin 4) {mem : Memref sig .tc .vmem (lshp l) .f32} (hm : mem = ldst l) {rr : Rect (lshp l)} {hl : mem.view.LoadsAt rr.toLoadRect}
    {v : rr.shape.Idx → Elt F .f32} (hv : ((ldst l).access rr).read (Elt F) (lland m c l) = v)
    {α : Type} {Q : α → sProp 𝕄} {k : (rr.shape.Idx → Elt F .f32) → Prog (TpuEff nD τ sig (Elt F) Λ₀ .tc) α} :
    locDone m c l ⊢ iprop((locDone m c l -∗ run c (k v) Q) -∗ run c (.op (.load mem rr.toLoadRect hl) k) Q) := by
  subst hm
  unfold locDone ldstAt
  iintro ⟨Hz, Hd, Hs⟩ Hk
  iapply (wp_load_rect 𝒱₀ (c : Thread nD τ) none Set.univ (m := ldst l) (r := rr) (S := (ldst l).view.set) (View.set_slice_subset _ _)) $$ Hd
  iintro Hd
  rw [hv]
  iapply Hk
  isplitl [Hz]; · iexact Hz
  isplitl [Hd] <;> iassumption

/-! ## A device's own slots -/

theorem origin_own (r : Fin 3) (c : Dev nD) : origin r (slotF r c 0) = c := by revert r c; decide

theorem peek0 (c : Dev nD) {off : Fin 3 → ℕ} {hin} (ho : off = ![(slotF 0 c 0).val, 0, 0])
    {hl : (Memref.whole cc0_scratch0).view.LoadsAt (Rect.unit (s := S8x176x4096) off S1x176x4096.size hin).toLoadRect}
    {α : Type} {Q : α → sProp 𝕄} {k : (S1x176x4096.Idx → Elt F .fp8e4m3) → Prog (TpuEff nD τ sig (Elt F) Λ₀ .tc) α} :
    slotAny c 0 (slotF 0 c 0) ⊢ iprop((∀ v, slotAny c 0 (slotF 0 c 0) -∗ run c (k v) Q)
      -∗ run c (.op (.load (Memref.whole cc0_scratch0) (Rect.unit (s := S8x176x4096) off S1x176x4096.size hin).toLoadRect hl) k) Q) := by
  subst ho
  exact peek c 0 (slotF 0 c 0) (mem := Memref.whole cc0_scratch0) (rr := Rect.unit (s := S8x176x4096) ![(slotF 0 c 0).val, 0, 0] S1x176x4096.size hin) (S := (slotM 0 (slotF 0 c 0)).view.set) rfl (slot_set0 _ _).subset
theorem own0 (c : Dev nD) {n : ℕ} (h : n ≤ 0) {off : Fin 3 → ℕ} {hin} (ho : off = ![(slotF 0 c 0).val, 0, 0]) {w : S1x176x4096.Idx → Elt F .fp8e4m3} (hw : w = xrow m c 0)
    {hx : ((Memref.whole cc0_scratch0).access (Rect.unit (s := S8x176x4096) off S1x176x4096.size hin)).Stores Finset.univ} {hm}
    {α : Type} {Q : α → sProp 𝕄} {k : PUnit → Prog (TpuEff nD τ sig (Elt F) Λ₀ .tc) α} :
    iprop(slotAny c 0 (slotF 0 c 0) ∗ St m K c n 0) ⊢ iprop((St m K c n 1 -∗ run c (k ⟨⟩) Q)
      -∗ run c (.op (.store (Memref.whole cc0_scratch0) (Rect.unit (s := S8x176x4096) off S1x176x4096.size hin) w Finset.univ hx hm) k) Q) := by
  subst ho
  iintro ⟨Hs, HS⟩ Hk
  iapply (poke m c 0 (slotF 0 c 0) (mem := Memref.whole cc0_scratch0) (rr := Rect.unit (s := S8x176x4096) ![(slotF 0 c 0).val, 0, 0] S1x176x4096.size hin)
    (g := gat m 0 (slotF 0 c 0)) (by rw [slot_set0]; rfl) (by rw [slot_set0]; rfl) (by rw [slot_read0, hw, origin_own])) $$ Hs
  iintro Hs
  iapply Hk
  iapply (fill_own m K c 0 n (fun k hk => h.trans ((by decide : ∀ k ∈ carries 0, 0 ≤ pos (0, k)) k hk)))
  isplitl [Hs]; · iexact Hs
  iexact HS
theorem peek1 (c : Dev nD) {off : Fin 3 → ℕ} {hin} (ho : off = ![(slotF 1 c 0).val, 0, 0])
    {hl : (Memref.whole cc0_scratch1).view.LoadsAt (Rect.unit (s := S8x168x4096) off S1x168x4096.size hin).toLoadRect}
    {α : Type} {Q : α → sProp 𝕄} {k : (S1x168x4096.Idx → Elt F .fp8e4m3) → Prog (TpuEff nD τ sig (Elt F) Λ₀ .tc) α} :
    slotAny c 1 (slotF 1 c 0) ⊢ iprop((∀ v, slotAny c 1 (slotF 1 c 0) -∗ run c (k v) Q)
      -∗ run c (.op (.load (Memref.whole cc0_scratch1) (Rect.unit (s := S8x168x4096) off S1x168x4096.size hin).toLoadRect hl) k) Q) := by
  subst ho
  exact peek c 1 (slotF 1 c 0) (mem := Memref.whole cc0_scratch1) (rr := Rect.unit (s := S8x168x4096) ![(slotF 1 c 0).val, 0, 0] S1x168x4096.size hin) (S := (slotM 1 (slotF 1 c 0)).view.set) rfl (slot_set1 _ _).subset
theorem own1 (c : Dev nD) {n : ℕ} (h : n ≤ 1) {off : Fin 3 → ℕ} {hin} (ho : off = ![(slotF 1 c 0).val, 0, 0]) {w : S1x168x4096.Idx → Elt F .fp8e4m3} (hw : w = xrow m c 1)
    {hx : ((Memref.whole cc0_scratch1).access (Rect.unit (s := S8x168x4096) off S1x168x4096.size hin)).Stores Finset.univ} {hm}
    {α : Type} {Q : α → sProp 𝕄} {k : PUnit → Prog (TpuEff nD τ sig (Elt F) Λ₀ .tc) α} :
    iprop(slotAny c 1 (slotF 1 c 0) ∗ St m K c n 1) ⊢ iprop((St m K c n 2 -∗ run c (k ⟨⟩) Q)
      -∗ run c (.op (.store (Memref.whole cc0_scratch1) (Rect.unit (s := S8x168x4096) off S1x168x4096.size hin) w Finset.univ hx hm) k) Q) := by
  subst ho
  iintro ⟨Hs, HS⟩ Hk
  iapply (poke m c 1 (slotF 1 c 0) (mem := Memref.whole cc0_scratch1) (rr := Rect.unit (s := S8x168x4096) ![(slotF 1 c 0).val, 0, 0] S1x168x4096.size hin)
    (g := gat m 1 (slotF 1 c 0)) (by rw [slot_set1]; rfl) (by rw [slot_set1]; rfl) (by rw [slot_read1, hw, origin_own])) $$ Hs
  iintro Hs
  iapply Hk
  iapply (fill_own m K c 1 n (fun k hk => h.trans ((by decide : ∀ k ∈ carries 0, 1 ≤ pos (1, k)) k hk)))
  isplitl [Hs]; · iexact Hs
  iexact HS
theorem peek2 (c : Dev nD) {off : Fin 3 → ℕ} {hin} (ho : off = ![(slotF 2 c 0).val, 0, 0])
    {hl : (Memref.whole cc0_scratch2).view.LoadsAt (Rect.unit (s := S8x168x4096) off S1x168x4096.size hin).toLoadRect}
    {α : Type} {Q : α → sProp 𝕄} {k : (S1x168x4096.Idx → Elt F .fp8e4m3) → Prog (TpuEff nD τ sig (Elt F) Λ₀ .tc) α} :
    slotAny c 2 (slotF 2 c 0) ⊢ iprop((∀ v, slotAny c 2 (slotF 2 c 0) -∗ run c (k v) Q)
      -∗ run c (.op (.load (Memref.whole cc0_scratch2) (Rect.unit (s := S8x168x4096) off S1x168x4096.size hin).toLoadRect hl) k) Q) := by
  subst ho
  exact peek c 2 (slotF 2 c 0) (mem := Memref.whole cc0_scratch2) (rr := Rect.unit (s := S8x168x4096) ![(slotF 2 c 0).val, 0, 0] S1x168x4096.size hin) (S := (slotM 2 (slotF 2 c 0)).view.set) rfl (slot_set2 _ _).subset
theorem own2 (c : Dev nD) {n : ℕ} (h : n ≤ 2) {off : Fin 3 → ℕ} {hin} (ho : off = ![(slotF 2 c 0).val, 0, 0]) {w : S1x168x4096.Idx → Elt F .fp8e4m3} (hw : w = xrow m c 2)
    {hx : ((Memref.whole cc0_scratch2).access (Rect.unit (s := S8x168x4096) off S1x168x4096.size hin)).Stores Finset.univ} {hm}
    {α : Type} {Q : α → sProp 𝕄} {k : PUnit → Prog (TpuEff nD τ sig (Elt F) Λ₀ .tc) α} :
    iprop(slotAny c 2 (slotF 2 c 0) ∗ St m K c n 2) ⊢ iprop((St m K c n 3 -∗ run c (k ⟨⟩) Q)
      -∗ run c (.op (.store (Memref.whole cc0_scratch2) (Rect.unit (s := S8x168x4096) off S1x168x4096.size hin) w Finset.univ hx hm) k) Q) := by
  subst ho
  iintro ⟨Hs, HS⟩ Hk
  iapply (poke m c 2 (slotF 2 c 0) (mem := Memref.whole cc0_scratch2) (rr := Rect.unit (s := S8x168x4096) ![(slotF 2 c 0).val, 0, 0] S1x168x4096.size hin)
    (g := gat m 2 (slotF 2 c 0)) (by rw [slot_set2]; rfl) (by rw [slot_set2]; rfl) (by rw [slot_read2, hw, origin_own])) $$ Hs
  iintro Hs
  iapply Hk
  iapply (fill_own m K c 2 n (fun k hk => h.trans ((by decide : ∀ k ∈ carries 0, 2 ≤ pos (2, k)) k hk)))
  isplitl [Hs]; · iexact Hs
  iexact HS

/-! ## The weight -/

/-- A store through a rectangle of a buffer held whole. -/
theorem store_all (c : Dev nD) {s : Shape} {e : EltTy} {mem : Memref sig .tc .vmem s e} {rr : Rect s} {w : rr.shape.Idx → Elt F e}
    {hx : (mem.access rr).Stores Finset.univ} {hm} {f g : Buf (Elt F) ((mem.access rr).loc (c : Thread nD τ))} (hv : (mem.access rr).write (Elt F) f w Finset.univ = g)
    {α : Type} {Q : α → sProp 𝕄} {k : PUnit → Prog (TpuEff nD τ sig (Elt F) Λ₀ .tc) α} :
    ((mem.access rr).loc (c : Thread nD τ) ↦{fullShare} f) ⊢ iprop((((mem.access rr).loc (c : Thread nD τ) ↦{fullShare} g) -∗ run c (k ⟨⟩) Q)
      -∗ run c (.op (.store mem rr w Finset.univ hx hm) k) Q) := by
  iintro H Hk
  iapply (wp_store 𝒱₀ (c : Thread nD τ) none Set.univ (m := mem) (r := rr) (Mk := Finset.univ) (Finset.subset_univ _)) $$ H
  iintro H
  rw [hv]
  iapply Hk; iexact H

theorem peekW (c : Dev nD) {rr : Rect S4096x256} {hl : (Memref.whole cc0_scratch3).view.LoadsAt rr.toLoadRect}
    {α : Type} {Q : α → sProp 𝕄} {k : (rr.shape.Idx → Elt F .fp8e4m3) → Prog (TpuEff nD τ sig (Elt F) Λ₀ .tc) α} {f : S4096x256.Idx → Elt F .fp8e4m3} :
    (((c : Thread nD τ).loc cc0_scratch3) ↦{fullShare} f) ⊢ iprop((∀ v, (((c : Thread nD τ).loc cc0_scratch3) ↦{fullShare} f) -∗ run c (k v) Q)
      -∗ run c (.op (.load (Memref.whole cc0_scratch3) rr.toLoadRect hl) k) Q) := by
  iintro H Hk
  iapply (wp_load_rect 𝒱₀ (c : Thread nD τ) none Set.univ (m := Memref.whole cc0_scratch3) (r := rr) (Finset.subset_univ _)) $$ H
  iintro H
  iapply Hk
  iexact H
theorem storeW (c : Dev nD) {hin} {w : S4096x256.Idx → Elt F .fp8e4m3} (hw : w = w8 m c) {f : S4096x256.Idx → Elt F .fp8e4m3}
    {hx : ((Memref.whole cc0_scratch3).access (Rect.unit (s := S4096x256) ![0, 0] S4096x256.size hin)).Stores Finset.univ} {hm}
    {α : Type} {Q : α → sProp 𝕄} {k : PUnit → Prog (TpuEff nD τ sig (Elt F) Λ₀ .tc) α} :
    (((c : Thread nD τ).loc cc0_scratch3) ↦{fullShare} f) ⊢ iprop((wPts m c -∗ run c (k ⟨⟩) Q)
      -∗ run c (.op (.store (Memref.whole cc0_scratch3) (Rect.unit (s := S4096x256) ![0, 0] S4096x256.size hin) w Finset.univ hx hm) k) Q) := by
  subst hw
  unfold wPts
  exact store_all c (mem := Memref.whole cc0_scratch3) (rr := Rect.unit (s := S4096x256) ![0, 0] S4096x256.size hin) (f := f) (g := w8 m c)
    (Memref.write_access_unit_zero_univ (Elt F) cc0_scratch3 (by funext a; revert a; decide) hin f (w8 m c))

/-! ## The scales -/

/-- The two scales' buffers. -/
def scPts (c : Dev nD) (sx sw : S1.Idx → Elt F .f32) : sProp 𝕄 :=
  iprop((((c : Thread nD τ).loc cc0_stg0_0) ↦{fullShare} sx) ∗ (((c : Thread nD τ).loc cc0_stg1_0) ↦{fullShare} sw))
/-- The one index of a scale's buffer. -/
def one0 : S1.Idx := fun | ⟨0, _⟩ => (0 : Fin 1)
/-- The product of the scales. -/
def scOf (sx sw : S1.Idx → Elt F .f32) : F .f32 := k0_pay1 (sx one0) (sw one0)

theorem idx_one (x y : S1.Idx) : x = y := by
  funext a; match a with | ⟨0, _⟩ => exact Fin.ext (by have h : (x 0).val < 1 := (x 0).isLt; have h' : (y 0).val < 1 := (y 0).isLt; show (x 0).val = (y 0).val; omega)

theorem load_scale (c : Dev nD) {mem : Memref sig .tc .smem S1 .f32} {rr : Rect S1} {hl : mem.view.LoadsAt rr.toLoadRect}
    {g : Buf (Elt F) ((mem.access rr).loc (c : Thread nD τ))}
    {α : Type} {Q : α → sProp 𝕄} {k : (rr.shape.Idx → Elt F .f32) → Prog (TpuEff nD τ sig (Elt F) Λ₀ .tc) α} :
    ((mem.access rr).loc (c : Thread nD τ) ↦{fullShare} g) ⊢ iprop((((mem.access rr).loc (c : Thread nD τ) ↦{fullShare} g) -∗ run c (k ((mem.access rr).read (Elt F) g)) Q)
      -∗ run c (.op (.load mem rr.toLoadRect hl) k) Q) :=
  wp_load_rect 𝒱₀ (c : Thread nD τ) none Set.univ (m := mem) (r := rr) (Finset.subset_univ _)

end Cert.BandGather

end
-- ==== Proof.Opening.lean ====
/-
The kernel's first parts: what each leads from and to.
-/
module

public import proofs.«01_k».proof.Proof.Start

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- The first two signals. -/
theorem part1 (c : Dev nD) :
    iprop(ctx m K ∗ owing c (owed0 c) ∗ sigKit c 0 ∗ sigKit c 1)
      ⊢ run c (atBufs (k0_part1 (F := F))) fun v => iprop(⌜v.1 = c ∧ v.2.2.2.2.2.2.2.1 = SemArray.scalar (sig.barrier 0 rfl)⌝ ∗ owing c (owed2 c)) := by
  unfold run
  simp only [atBufs, k0_part1_eq_skeleton, k0_part1_skel, semSignalWord, semWaitWord, smemLoad, smemLoadElt, Prog.lift, Prog.bind_op, Prog.bind_ret, Prog.pure_eq_ret, wp_deviceId]
  iintro ⟨#HC, HO, H0, H1⟩
  iapply (step_signal m K c 0 (O := owed1 c) rfl (dev1_eq c) rfl) $$ [HO H0]
  · isplitr; · iexact HC
    isplitl [HO]; · iexact HO
    iassumption
  iintro HO
  iapply (step_signal m K c 1 (O := owed2 c) rfl (dev2_eq c) rfl) $$ [HO H1]
  · isplitr; · iexact HC
    isplitl [HO]; · iexact HO
    iassumption
  iintro HO
  rw [run, wp_ret]; imodintro
  isplitr; · ipureintro; exact ⟨rfl, rfl⟩
  iexact HO

/-- The third signal, the local copies, the scales, the barrier, the first band's own slot. -/
theorem part2 (c : Dev nD) (sx sw : S1.Idx → Elt F .f32) (v8 v17 v31 : BitVec 32) (v26 : Sems sig S_) (h26 : v26 = SemArray.scalar (sig.barrier 0 rfl)) :
    iprop(ctx m K ∗ owing c (owed2 c) ∗ sigKit c 2 ∗ barWait c ∗ bigSep Finset.univ (sendKit0 c) ∗ bigSep Finset.univ (recvKit c)
        ∗ (locKit m c 0 ∗ locKit m c 1 ∗ locKit m c 2 ∗ locKit m c 3) ∗ scPts c sx sw ∗ slotAny c 0 (slotF 0 c 0))
      ⊢ run c (atBufs k0_part2 c v8 v17 v26 v31) fun v => iprop(⌜v = scOf sx sw⌝ ∗ St m K c 0 1 ∗ semVal (barCell c) 0 ∗ scPts c sx sw
        ∗ locDone m c 0 ∗ locRun c 1 ∗ locRun c 2 ∗ locRun c 3) := by
  subst h26
  simp only [atBufs, k0_part2_eq_skeleton, k0_part2_skel, semSignalWord, semWaitWord, smemLoad, smemLoadElt, Prog.lift, Prog.bind_op, Prog.bind_ret, Prog.pure_eq_ret, wp_deviceId]
  unfold scPts
  iintro ⟨#HC, HO, H2, HB, HS, HR, ⟨Hl0, Hl1, Hl2, Hl3⟩, ⟨Hx, Hw⟩, Hs⟩
  iapply (step_signal m K c 2 (O := owed c 0) rfl (dev3_eq c) rfl) $$ [HO H2]
  · isplitr; · iexact HC
    isplitl [HO]; · iexact HO
    iassumption
  iintro HO
  iapply (step_copy m K c 0 rfl rfl rfl) $$ [Hl0]
  · isplitr; · iexact HC
    iexact Hl0
  iintro Hl0
  iapply (step_copy m K c 1 rfl rfl rfl) $$ [Hl1]
  · isplitr; · iexact HC
    iexact Hl1
  iintro Hl1
  iapply (step_copy m K c 2 rfl rfl rfl) $$ [Hl2]
  · isplitr; · iexact HC
    iexact Hl2
  iintro Hl2
  iapply (step_copy m K c 3 rfl rfl rfl) $$ [Hl3]
  · isplitr; · iexact HC
    iexact Hl3
  iintro Hl3
  iapply (load_scale c (mem := Memref.whole cc0_stg0_0) (rr := Rect.unit (s := S1) ![0] S1.size inb_S1_S1_0) (g := sx)) $$ Hx
  iintro Hx
  iapply (load_scale c (mem := Memref.whole cc0_stg1_0) (rr := Rect.unit (s := S1) ![0] S1.size inb_S1_S1_0) (g := sw)) $$ Hw
  iintro Hw
  iapply (step_bar m K c rfl) $$ [HO HB HS HR]
  · isplitr; · iexact HC
    isplitl [HO]; · iexact HO
    isplitl [HB]; · iexact HB
    isplitl [HS] <;> iassumption
  iintro ⟨HS, Hz⟩
  iapply (step_loc m K c 0 (n := 0) (a := 0) rfl (by rfl)) $$ [HS Hl0]
  · isplitl [HS] <;> iassumption
  iintro ⟨HS, Hl0⟩
  iapply (load_land m c 0 (mem := Memref.whole cc0_scratch4) rfl (rr := Rect.unit (s := S176x4096) ![0, 0] S176x4096.size inb_S176x4096_S176x4096_0_0) (v := lval m c 0)
    (Memref.read_access_unit_zero (Elt F) cc0_scratch4 (by funext a; revert a; decide) inb_S176x4096_S176x4096_0_0 _)) $$ Hl0
  iintro Hl0
  iapply (peek0 c (off1_eq c)) $$ Hs
  iintro %v Hs
  iapply (own0 m K c (n := 0) (by omega) (off1_eq c) rfl) $$ [Hs HS]
  · isplitl [Hs] <;> iassumption
  iintro HS
  rw [run, wp_ret]; imodintro
  isplitr
  · ipureintro
    exact congrArg₂ k0_pay1 (congrArg sx (idx_one _ _)) (congrArg sw (idx_one _ _))
  isplitl [HS]; · iexact HS
  isplitl [Hz]; · iexact Hz
  isplitl [Hx Hw]; · isplitl [Hx] <;> iassumption
  isplitl [Hl0]; · iexact Hl0
  isplitl [Hl1]; · iexact Hl1
  isplitl [Hl2] <;> iassumption

/-- The first band's first transfer, the second band's own slot and first transfer, and the third band's rows. -/
theorem part3 (c : Dev nD) (v12 v21 : BitVec 32) :
    iprop(St m K c 0 1 ∗ locRun c 1 ∗ locRun c 2 ∗ slotAny c 1 (slotF 1 c 0))
      ⊢ run c (atBufs k0_part3 c v12 v21) fun v => iprop(⌜v = lval m c 2⌝ ∗ St m K c 2 2 ∗ locDone m c 1 ∗ locDone m c 2) := by
  simp only [atBufs, k0_part3_eq_skeleton, k0_part3_skel, semSignalWord, semWaitWord, smemLoad, smemLoadElt, Prog.lift, Prog.bind_op, Prog.bind_ret, Prog.pure_eq_ret, wp_deviceId]
  iintro ⟨HS, Hl1, Hl2, Hs⟩
  iapply (step_send m K c (0, 0) (n := 0) (n' := 1) (a := 1) rfl rfl (by decide) (dev4_eq c) (slotM0_of _ (off2_eq c)) (slotM0_of _ (off2_eq c)) rfl rfl) $$ HS
  iintro HS
  iapply (step_loc m K c 1 (n := 1) (a := 1) rfl (by rfl)) $$ [HS Hl1]
  · isplitl [HS] <;> iassumption
  iintro ⟨HS, Hl1⟩
  iapply (load_land m c 1 (mem := Memref.whole cc0_scratch5) rfl (rr := Rect.unit (s := S168x4096) ![0, 0] S168x4096.size inb_S168x4096_S168x4096_0_0) (v := lval m c 1)
    (Memref.read_access_unit_zero (Elt F) cc0_scratch5 (by funext a; revert a; decide) inb_S168x4096_S168x4096_0_0 _)) $$ Hl1
  iintro Hl1
  iapply (peek1 c (off3_eq c)) $$ Hs
  iintro %v Hs
  iapply (own1 m K c (n := 1) (by omega) (off3_eq c) rfl) $$ [Hs HS]
  · isplitl [Hs] <;> iassumption
  iintro HS
  iapply (step_send m K c (1, 0) (n := 1) (n' := 2) (a := 2) rfl rfl (by decide) (dev5_eq c) (slotM1_of _ (off4_eq c)) (slotM1_of _ (off4_eq c)) rfl rfl) $$ HS
  iintro HS
  iapply (step_loc m K c 2 (n := 2) (a := 2) rfl (by rfl)) $$ [HS Hl2]
  · isplitl [HS] <;> iassumption
  iintro ⟨HS, Hl2⟩
  iapply (load_land m c 2 (mem := Memref.whole cc0_scratch6) rfl (rr := Rect.unit (s := S168x4096) ![0, 0] S168x4096.size inb_S168x4096_S168x4096_0_0) (v := lval m c 2)
    (Memref.read_access_unit_zero (Elt F) cc0_scratch6 (by funext a; revert a; decide) inb_S168x4096_S168x4096_0_0 _)) $$ Hl2
  iintro Hl2
  iapply (part_ret c (v := lval m c 2) (BI.Entails.refl _))
  isplitr; · ipureintro; rfl
  isplitl [HS]; · iexact HS
  isplitl [Hl1] <;> iassumption

/-- The third band's own slot and first transfer, and the first band's second transfer. -/
theorem part4 (c : Dev nD) (v12 v13 v25 : BitVec 32) (v88 : Vec F S168x4096 .f32) (h88 : v88 = lval m c 2) :
    iprop(St m K c 2 2 ∗ slotAny c 2 (slotF 2 c 0)) ⊢ run c (atBufs k0_part4 c v12 v13 v25 v88) fun _ => St m K c 4 3 := by
  subst h88
  simp only [atBufs, k0_part4_eq_skeleton, k0_part4_skel, semSignalWord, semWaitWord, smemLoad, smemLoadElt, Prog.lift, Prog.bind_op, Prog.bind_ret, Prog.pure_eq_ret, wp_deviceId]
  iintro ⟨HS, Hs⟩
  iapply (peek2 c (off5_eq c)) $$ Hs
  iintro %v Hs
  iapply (own2 m K c (n := 2) (by omega) (off5_eq c) rfl) $$ [Hs HS]
  · isplitl [Hs] <;> iassumption
  iintro HS
  iapply (step_send m K c (2, 0) (n := 2) (n' := 3) (a := 3) rfl rfl (by decide) (dev6_eq c) (slotM2_of _ (off6_eq c)) (slotM2_of _ (off6_eq c)) rfl rfl) $$ HS
  iintro HS
  iapply (step_send m K c (0, 1) (n := 3) (n' := 4) (a := 3) rfl rfl (by decide) (dev7_eq c) (slotM0_of _ (off2_eq c)) (slotM0_of _ (off2_eq c)) rfl rfl) $$ HS
  iintro HS
  iapply (part_ret c (v := (⟨⟩ : PUnit)) (BI.Entails.refl _))
  iexact HS

/-- Three more transfers. -/
theorem part5 (c : Dev nD) (v8 v13 : BitVec 32) : St m K c 4 3 ⊢ run c (atBufs k0_part5 c v8 v13) fun _ => St m K c 7 3 := by
  simp only [atBufs, k0_part5_eq_skeleton, k0_part5_skel, semSignalWord, semWaitWord, smemLoad, smemLoadElt, Prog.lift, Prog.bind_op, Prog.bind_ret, Prog.pure_eq_ret, wp_deviceId]
  iintro HS
  iapply (step_send m K c (1, 1) (n := 4) (n' := 5) (a := 3) rfl rfl (by decide) (dev8_eq c) (slotM1_of _ (off4_eq c)) (slotM1_of _ (off4_eq c)) rfl rfl) $$ HS
  iintro HS
  iapply (step_send m K c (2, 1) (n := 5) (n' := 6) (a := 3) rfl rfl (by decide) (dev9_eq c) (slotM2_of _ (off6_eq c)) (slotM2_of _ (off6_eq c)) rfl rfl) $$ HS
  iintro HS
  iapply (step_send m K c (0, 2) (n := 6) (n' := 7) (a := 3) rfl rfl (by decide) (dev10_eq c) (slotM0_of _ (off2_eq c)) (slotM0_of _ (off2_eq c)) rfl rfl) $$ HS
  iintro HS
  iapply (part_ret c (v := _) (BI.Entails.refl _))
  iexact HS

/-- Two more transfers, and the weight. -/
theorem part6 (c : Dev nD) (v12 v17 : BitVec 32) (f : S4096x256.Idx → Elt F .fp8e4m3) :
    iprop(St m K c 7 3 ∗ locRun c 3 ∗ ((c : Thread nD τ).loc cc0_scratch3) ↦{fullShare} f)
      ⊢ run c (atBufs k0_part6 c v12 v17) fun v => iprop(⌜v.2.1 = k0_pay6 (xrow m (origin 0 (slotF 0 c 0)) 0) ∧ v.2.2 = w8 m c⌝ ∗ St m K c 9 3 ∗ wPts m c ∗ locDone m c 3) := by
  simp only [atBufs, k0_part6_eq_skeleton, k0_part6_skel, semSignalWord, semWaitWord, smemLoad, smemLoadElt, Prog.lift, Prog.bind_op, Prog.bind_ret, Prog.pure_eq_ret, wp_deviceId]
  iintro ⟨HS, Hl3, Hw⟩
  iapply (step_send m K c (1, 2) (n := 7) (n' := 8) (a := 3) rfl rfl (by decide) (dev11_eq c) (slotM1_of _ (off4_eq c)) (slotM1_of _ (off4_eq c)) rfl rfl) $$ HS
  iintro HS
  iapply (step_send m K c (2, 2) (n := 8) (n' := 9) (a := 3) rfl rfl (by decide) (dev12_eq c) (slotM2_of _ (off6_eq c)) (slotM2_of _ (off6_eq c)) rfl rfl) $$ HS
  iintro HS
  iapply (step_loc m K c 3 (n := 9) (a := 3) rfl (by rfl)) $$ [HS Hl3]
  · isplitl [HS] <;> iassumption
  iintro ⟨HS, Hl3⟩
  iapply (load_land m c 3 (mem := Memref.whole cc0_scratch7) rfl (rr := Rect.unit (s := S4096x256) ![0, 0] S4096x256.size inb_S4096x256_S4096x256_0_0) (v := lval m c 3)
    (Memref.read_access_unit_zero (Elt F) cc0_scratch7 (by funext a; revert a; decide) inb_S4096x256_S4096x256_0_0 _)) $$ Hl3
  iintro Hl3
  iapply (peekW c) $$ Hw
  iintro %v Hw
  iapply (storeW m c rfl) $$ Hw
  iintro Hw
  iapply (load0 m K c 0 (n := 9) (a := 3) (by decide) (off1_eq c)) $$ HS
  iintro HS
  iapply (loadW m c) $$ Hw
  iintro Hw
  rw [run, wp_ret]; imodintro
  isplitr; · ipureintro; exact ⟨rfl, rfl⟩
  isplitl [HS]; · iexact HS
  isplitl [Hw] <;> iassumption

end Cert.BandGather

end
-- ==== Proof.Middle.lean ====
/-
The kernel's main stretch, part by part: the transfers of the second and third rounds, the arrivals, and the pieces of the product
as the slots fill.

Part `n`'s theorem says from which state it leads to which: how many transfers are issued, how many slots filled, how many pieces
of the result computed.
-/
module

public import proofs.«01_k».proof.Proof.Parts0

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

theorem part7 (sc : F .f32) (c : Dev nD) (v21 v25 v180 : BitVec 32) (v183 : FVec F S176x4096 .fp8e4m3) (hv183 : v183 = k0_pay6 (xrow m (origin 0 (slotF 0 c 0)) 0)) (v184 : Vec F S4096x256 .fp8e4m3) (hv184 : v184 = w8 m c) :
    Mid m K sc c 9 3 0 ⊢ run c (atBufs k0_part7 c v21 v25 sc v180 v183 v184) fun _ => Mid m K sc c 9 3 2 := by
  subst hv183 hv184
  simp only [atBufs, k0_part7_eq_skeleton, k0_part7_skel, Prog.lift, Prog.bind_op, Prog.bind_ret, Prog.pure_eq_ret]
  refine onP (peekO m sc c) fun _ => ?_
  refine onO (store0 m sc c 0 (g := 0) (g' := 1) rfl rfl (off7_eq c) rfl) ?_
  refine onS (load1 m K c 0 (n := 9) (a := 3) (by decide) (off3_eq c)) ?_
  refine onW (loadW m c) ?_
  refine onP (peekO m sc c) fun _ => ?_
  refine onO (store1 m sc c 0 (g := 1) (g' := 2) rfl rfl (off8_eq c) rfl) ?_
  exact part_ret c (BI.Entails.refl _)

theorem part8 (sc : F .f32) (c : Dev nD) (v8 v12 v17 v25 v213 v215 v217 c4_i32_156 : BitVec 32) :
    Mid m K sc c 9 3 2 ⊢ run c (atBufs k0_part8 c v8 v12 v17 v25 sc v213 v215 v217 c4_i32_156) fun _ => Mid m K sc c 9 4 3 := by
  simp only [atBufs, k0_part8_eq_skeleton, k0_part8_skel, Prog.lift, Prog.bind_op, Prog.bind_ret, Prog.pure_eq_ret]
  refine onS (load2 m K c 0 (n := 9) (a := 3) (by decide) (off5_eq c)) ?_
  refine onW (loadW m c) ?_
  refine onP (peekO m sc c) fun _ => ?_
  refine onO (store2 m sc c 0 (g := 2) (g' := 3) rfl rfl (off9_eq c) rfl) ?_
  refine onS (step_recv m K c (0, 0) (n := 9) (a := 3) (a' := 4) rfl rfl (by decide) (by decide) rfl (by rfl)) ?_
  exact part_ret c (BI.Entails.refl _)

theorem part9 (sc : F .f32) (c : Dev nD) (v12 v13 v17 v21 : BitVec 32) :
    Mid m K sc c 9 4 3 ⊢ run c (atBufs k0_part9 c v12 v13 v17 v21) fun _ => Mid m K sc c 11 5 3 := by
  simp only [atBufs, k0_part9_eq_skeleton, k0_part9_skel, Prog.lift, Prog.bind_op, Prog.bind_ret, Prog.pure_eq_ret]
  refine onS (step_send m K c (0, 3) (n := 9) (n' := 10) (a := 4) rfl rfl (by decide) (dev13_eq c) (slotM0_of _ (off10_eq c 0)) (slotM0_of _ (off10_eq c 0)) rfl rfl) ?_
  refine onS (step_send m K c (0, 4) (n := 10) (n' := 11) (a := 4) rfl rfl (by decide) (dev14_eq c) (slotM0_of _ (off10_eq c 0)) (slotM0_of _ (off10_eq c 0)) rfl rfl) ?_
  refine onS (step_recv m K c (1, 0) (n := 11) (a := 4) (a' := 5) rfl rfl (by decide) (by decide) rfl (by rfl)) ?_
  exact part_ret c (BI.Entails.refl _)

theorem part10 (sc : F .f32) (c : Dev nD) (v8 v13 v21 v25 : BitVec 32) :
    Mid m K sc c 11 5 3 ⊢ run c (atBufs k0_part10 c v8 v13 v21 v25) fun _ => Mid m K sc c 13 6 3 := by
  simp only [atBufs, k0_part10_eq_skeleton, k0_part10_skel, Prog.lift, Prog.bind_op, Prog.bind_ret, Prog.pure_eq_ret]
  refine onS (step_send m K c (1, 3) (n := 11) (n' := 12) (a := 5) rfl rfl (by decide) (dev15_eq c) (slotM1_of _ (off11_eq c 0)) (slotM1_of _ (off11_eq c 0)) rfl rfl) ?_
  refine onS (step_send m K c (1, 4) (n := 12) (n' := 13) (a := 5) rfl rfl (by decide) (dev16_eq c) (slotM1_of _ (off11_eq c 0)) (slotM1_of _ (off11_eq c 0)) rfl rfl) ?_
  refine onS (step_recv m K c (2, 0) (n := 13) (a := 5) (a' := 6) rfl rfl (by decide) (by decide) rfl (by rfl)) ?_
  exact part_ret c (BI.Entails.refl _)

theorem part11 (sc : F .f32) (c : Dev nD) (v12 v17 v25 : BitVec 32) :
    Mid m K sc c 13 6 3 ⊢ run c (atBufs k0_part11 c v12 v17 v25 sc) fun v => iprop(⌜v.2 = piece m sc c 0 1⌝ ∗ Mid m K sc c 15 6 3) := by
  simp only [atBufs, k0_part11_eq_skeleton, k0_part11_skel, Prog.lift, Prog.bind_op, Prog.bind_ret, Prog.pure_eq_ret]
  refine onS (step_send m K c (2, 3) (n := 13) (n' := 14) (a := 6) rfl rfl (by decide) (dev17_eq c) (slotM2_of _ (off12_eq c 0)) (slotM2_of _ (off12_eq c 0)) rfl rfl) ?_
  refine onS (step_send m K c (2, 4) (n := 14) (n' := 15) (a := 6) rfl rfl (by decide) (dev18_eq c) (slotM2_of _ (off12_eq c 0)) (slotM2_of _ (off12_eq c 0)) rfl rfl) ?_
  refine onS (load0 m K c 1 (n := 15) (a := 6) (by decide) (off13_eq c 0)) ?_
  refine onW (loadW m c) ?_
  exact part_ret c (with_fact rfl)

theorem part12 (sc : F .f32) (c : Dev nD) (v21 v25 v337 : BitVec 32) (v344 : FVec F S176x256 .f32) (hv344 : v344 = piece m sc c 0 1) :
    Mid m K sc c 15 6 3 ⊢ run c (atBufs k0_part12 c v21 v25 sc v337 v344) fun _ => Mid m K sc c 15 6 5 := by
  subst hv344
  simp only [atBufs, k0_part12_eq_skeleton, k0_part12_skel, Prog.lift, Prog.bind_op, Prog.bind_ret, Prog.pure_eq_ret]
  refine onP (peekO m sc c) fun _ => ?_
  refine onO (store0 m sc c 1 (g := 3) (g' := 4) rfl rfl (off14_eq c 0) rfl) ?_
  refine onS (load1 m K c 1 (n := 15) (a := 6) (by decide) (off15_eq c 0)) ?_
  refine onW (loadW m c) ?_
  refine onP (peekO m sc c) fun _ => ?_
  refine onO (store1 m sc c 1 (g := 4) (g' := 5) rfl rfl (off16_eq c 0) rfl) ?_
  exact part_ret c (BI.Entails.refl _)

theorem part13 (sc : F .f32) (c : Dev nD) (v12 v13 v17 v371 v372 v374 v376 c4_i32_281 : BitVec 32) :
    Mid m K sc c 15 6 5 ⊢ run c (atBufs k0_part13 c v12 v13 v17 sc v371 v372 v374 v376 c4_i32_281) fun _ => Mid m K sc c 15 7 6 := by
  simp only [atBufs, k0_part13_eq_skeleton, k0_part13_skel, Prog.lift, Prog.bind_op, Prog.bind_ret, Prog.pure_eq_ret]
  refine onS (load2 m K c 1 (n := 15) (a := 6) (by decide) (off17_eq c 0)) ?_
  refine onW (loadW m c) ?_
  refine onP (peekO m sc c) fun _ => ?_
  refine onO (store2 m sc c 1 (g := 5) (g' := 6) rfl rfl (off18_eq c 0) rfl) ?_
  refine onS (step_recv m K c (0, 1) (n := 15) (a := 6) (a' := 7) rfl rfl (by decide) (by decide) rfl (by rfl)) ?_
  exact part_ret c (BI.Entails.refl _)

theorem part14 (sc : F .f32) (c : Dev nD) (v8 v13 v21 v25 : BitVec 32) :
    Mid m K sc c 15 7 6 ⊢ run c (atBufs k0_part14 c v8 v13 v21 v25) fun _ => Mid m K sc c 17 8 6 := by
  simp only [atBufs, k0_part14_eq_skeleton, k0_part14_skel, Prog.lift, Prog.bind_op, Prog.bind_ret, Prog.pure_eq_ret]
  refine onS (step_send m K c (0, 5) (n := 15) (n' := 16) (a := 7) rfl rfl (by decide) (dev19_eq c) (slotM0_of _ (off10_eq c 1)) (slotM0_of _ (off10_eq c 1)) rfl rfl) ?_
  refine onS (step_recv m K c (1, 1) (n := 16) (a := 7) (a' := 8) rfl rfl (by decide) (by decide) rfl (by rfl)) ?_
  refine onS (step_send m K c (1, 5) (n := 16) (n' := 17) (a := 8) rfl rfl (by decide) (dev20_eq c) (slotM1_of _ (off11_eq c 1)) (slotM1_of _ (off11_eq c 1)) rfl rfl) ?_
  exact part_ret c (BI.Entails.refl _)

theorem part15 (sc : F .f32) (c : Dev nD) (v12 v17 v25 : BitVec 32) :
    Mid m K sc c 17 8 6 ⊢ run c (atBufs k0_part15 c v12 v17 v25 sc) fun v => iprop(⌜v.1 = piece m sc c 0 2⌝ ∗ Mid m K sc c 18 9 6) := by
  simp only [atBufs, k0_part15_eq_skeleton, k0_part15_skel, Prog.lift, Prog.bind_op, Prog.bind_ret, Prog.pure_eq_ret]
  refine onS (step_recv m K c (2, 1) (n := 17) (a := 8) (a' := 9) rfl rfl (by decide) (by decide) rfl (by rfl)) ?_
  refine onS (step_send m K c (2, 5) (n := 17) (n' := 18) (a := 9) rfl rfl (by decide) (dev21_eq c) (slotM2_of _ (off12_eq c 1)) (slotM2_of _ (off12_eq c 1)) rfl rfl) ?_
  refine onS (load0 m K c 2 (n := 18) (a := 9) (by decide) (off13_eq c 1)) ?_
  refine onW (loadW m c) ?_
  exact part_ret c (with_fact rfl)

theorem part16 (sc : F .f32) (c : Dev nD) (v21 v25 v471 c0_i32_356 : BitVec 32) (v470 : FVec F S176x256 .f32) (hv470 : v470 = piece m sc c 0 2) :
    Mid m K sc c 18 9 6 ⊢ run c (atBufs k0_part16 c v21 v25 sc v470 v471 c0_i32_356) fun _ => Mid m K sc c 18 9 8 := by
  subst hv470
  simp only [atBufs, k0_part16_eq_skeleton, k0_part16_skel, Prog.lift, Prog.bind_op, Prog.bind_ret, Prog.pure_eq_ret]
  refine onP (peekO m sc c) fun _ => ?_
  refine onO (store0 m sc c 2 (g := 6) (g' := 7) rfl rfl (off14_eq c 1) rfl) ?_
  refine onS (load1 m K c 2 (n := 18) (a := 9) (by decide) (off15_eq c 1)) ?_
  refine onW (loadW m c) ?_
  refine onP (peekO m sc c) fun _ => ?_
  refine onO (store1 m sc c 2 (g := 7) (g' := 8) rfl rfl (off16_eq c 1) rfl) ?_
  exact part_ret c (BI.Entails.refl _)

theorem part17 (sc : F .f32) (c : Dev nD) (v12 v13 v17 v497 v500 v502 v503 v504 : BitVec 32) :
    Mid m K sc c 18 9 8 ⊢ run c (atBufs k0_part17 c v12 v13 v17 sc v497 v500 v502 v503 v504) fun _ => Mid m K sc c 18 10 9 := by
  simp only [atBufs, k0_part17_eq_skeleton, k0_part17_skel, Prog.lift, Prog.bind_op, Prog.bind_ret, Prog.pure_eq_ret]
  refine onS (load2 m K c 2 (n := 18) (a := 9) (by decide) (off17_eq c 1)) ?_
  refine onW (loadW m c) ?_
  refine onP (peekO m sc c) fun _ => ?_
  refine onO (store2 m sc c 2 (g := 8) (g' := 9) rfl rfl (off18_eq c 1) rfl) ?_
  refine onS (step_recv m K c (0, 3) (n := 18) (a := 9) (a' := 10) rfl rfl (by decide) (by decide) rfl (by rfl)) ?_
  exact part_ret c (BI.Entails.refl _)

theorem part18 (sc : F .f32) (c : Dev nD) (v8 v13 v21 v25 : BitVec 32) :
    Mid m K sc c 18 10 9 ⊢ run c (atBufs k0_part18 c v8 v13 v21 v25) fun _ => Mid m K sc c 20 11 9 := by
  simp only [atBufs, k0_part18_eq_skeleton, k0_part18_skel, Prog.lift, Prog.bind_op, Prog.bind_ret, Prog.pure_eq_ret]
  refine onS (step_send m K c (0, 6) (n := 18) (n' := 19) (a := 10) rfl rfl (by decide) (dev22_eq c) (slotM0_of _ (off10_eq c 2)) (slotM0_of _ (off10_eq c 2)) rfl rfl) ?_
  refine onS (step_recv m K c (1, 3) (n := 19) (a := 10) (a' := 11) rfl rfl (by decide) (by decide) rfl (by rfl)) ?_
  refine onS (step_send m K c (1, 6) (n := 19) (n' := 20) (a := 11) rfl rfl (by decide) (dev23_eq c) (slotM1_of _ (off11_eq c 2)) (slotM1_of _ (off11_eq c 2)) rfl rfl) ?_
  exact part_ret c (BI.Entails.refl _)

theorem part19 (sc : F .f32) (c : Dev nD) (v12 v17 v25 : BitVec 32) :
    Mid m K sc c 20 11 9 ⊢ run c (atBufs k0_part19 c v12 v17 v25 sc) fun v => iprop(⌜v = piece m sc c 0 3⌝ ∗ Mid m K sc c 21 12 9) := by
  simp only [atBufs, k0_part19_eq_skeleton, k0_part19_skel, Prog.lift, Prog.bind_op, Prog.bind_ret, Prog.pure_eq_ret]
  refine onS (step_recv m K c (2, 3) (n := 20) (a := 11) (a' := 12) rfl rfl (by decide) (by decide) rfl (by rfl)) ?_
  refine onS (step_send m K c (2, 6) (n := 20) (n' := 21) (a := 12) rfl rfl (by decide) (dev24_eq c) (slotM2_of _ (off12_eq c 2)) (slotM2_of _ (off12_eq c 2)) rfl rfl) ?_
  refine onS (load0 m K c 3 (n := 21) (a := 12) (by decide) (off13_eq c 2)) ?_
  refine onW (loadW m c) ?_
  exact part_ret c (with_fact rfl)

theorem part20 (sc : F .f32) (c : Dev nD) (v21 v25 : BitVec 32) (v596 : FVec F S176x256 .f32) (hv596 : v596 = piece m sc c 0 3) :
    Mid m K sc c 21 12 9 ⊢ run c (atBufs k0_part20 c v21 v25 sc v596) fun _ => Mid m K sc c 21 12 11 := by
  subst hv596
  simp only [atBufs, k0_part20_eq_skeleton, k0_part20_skel, Prog.lift, Prog.bind_op, Prog.bind_ret, Prog.pure_eq_ret]
  refine onP (peekO m sc c) fun _ => ?_
  refine onO (store0 m sc c 3 (g := 9) (g' := 10) rfl rfl (off14_eq c 2) rfl) ?_
  refine onS (load1 m K c 3 (n := 21) (a := 12) (by decide) (off15_eq c 2)) ?_
  refine onW (loadW m c) ?_
  refine onP (peekO m sc c) fun _ => ?_
  refine onO (store1 m sc c 3 (g := 10) (g' := 11) rfl rfl (off16_eq c 2) rfl) ?_
  exact part_ret c (BI.Entails.refl _)

theorem part21 (sc : F .f32) (c : Dev nD) (v13 v17 v623 v633 : BitVec 32) :
    Mid m K sc c 21 12 11 ⊢ run c (atBufs k0_part21 c v13 v17 sc v623 v633) fun _ => Mid m K sc c 21 13 12 := by
  simp only [atBufs, k0_part21_eq_skeleton, k0_part21_skel, Prog.lift, Prog.bind_op, Prog.bind_ret, Prog.pure_eq_ret]
  refine onS (load2 m K c 3 (n := 21) (a := 12) (by decide) (off17_eq c 2)) ?_
  refine onW (loadW m c) ?_
  refine onP (peekO m sc c) fun _ => ?_
  refine onO (store2 m sc c 3 (g := 11) (g' := 12) rfl rfl (off18_eq c 2) rfl) ?_
  refine onS (step_recv m K c (0, 2) (n := 21) (a := 12) (a' := 13) rfl rfl (by decide) (by decide) rfl (by rfl)) ?_
  exact part_ret c (BI.Entails.refl _)

theorem part22 (sc : F .f32) (c : Dev nD) (v8 v21 v664 : BitVec 32) :
    Mid m K sc c 21 13 12 ⊢ run c (atBufs k0_part22 c v8 v21 sc v664) fun v => iprop(⌜v.2 = (xrow m (origin 1 (slotF 1 c 4)) 1)⌝ ∗ Mid m K sc c 21 14 13) := by
  simp only [atBufs, k0_part22_eq_skeleton, k0_part22_skel, Prog.lift, Prog.bind_op, Prog.bind_ret, Prog.pure_eq_ret]
  refine onS (load0 m K c 4 (n := 21) (a := 13) (by decide) (off13_eq c 3)) ?_
  refine onW (loadW m c) ?_
  refine onP (peekO m sc c) fun _ => ?_
  refine onO (store0 m sc c 4 (g := 12) (g' := 13) rfl rfl (off14_eq c 3) rfl) ?_
  refine onS (step_recv m K c (1, 2) (n := 21) (a := 13) (a' := 14) rfl rfl (by decide) (by decide) rfl (by rfl)) ?_
  refine onS (load1 m K c 4 (n := 21) (a := 14) (by decide) (off15_eq c 3)) ?_
  exact part_ret c (with_fact rfl)

theorem part23 (sc : F .f32) (c : Dev nD) (v12 v25 v695 : BitVec 32) (v697 : Vec F S1x168x4096 .fp8e4m3) (hv697 : v697 = (xrow m (origin 1 (slotF 1 c 4)) 1)) :
    Mid m K sc c 21 14 13 ⊢ run c (atBufs k0_part23 c v12 v25 sc v695 v697) fun v => iprop(⌜v.2 = k0_pay21 (xrow m (origin 2 (slotF 2 c 4)) 2)⌝ ∗ Mid m K sc c 21 15 14) := by
  subst hv697
  simp only [atBufs, k0_part23_eq_skeleton, k0_part23_skel, Prog.lift, Prog.bind_op, Prog.bind_ret, Prog.pure_eq_ret]
  refine onW (loadW m c) ?_
  refine onP (peekO m sc c) fun _ => ?_
  refine onO (store1 m sc c 4 (g := 13) (g' := 14) rfl rfl (off16_eq c 3) rfl) ?_
  refine onS (step_recv m K c (2, 2) (n := 21) (a := 14) (a' := 15) rfl rfl (by decide) (by decide) rfl (by rfl)) ?_
  refine onS (load2 m K c 4 (n := 21) (a := 15) (by decide) (off17_eq c 3)) ?_
  exact part_ret c (with_fact rfl)

theorem part24 (sc : F .f32) (c : Dev nD) (v13 v17 v726 : BitVec 32) (v729 : FVec F S168x4096 .fp8e4m3) (hv729 : v729 = k0_pay21 (xrow m (origin 2 (slotF 2 c 4)) 2)) :
    Mid m K sc c 21 15 14 ⊢ run c (atBufs k0_part24 c v13 v17 sc v726 v729) fun v => iprop(⌜v.2.1 = k0_pay23 (xrow m (origin 0 (slotF 0 c 5)) 0) ∧ v.2.2 = w8 m c⌝ ∗ Mid m K sc c 21 16 15) := by
  subst hv729
  simp only [atBufs, k0_part24_eq_skeleton, k0_part24_skel, Prog.lift, Prog.bind_op, Prog.bind_ret, Prog.pure_eq_ret]
  refine onW (loadW m c) ?_
  refine onP (peekO m sc c) fun _ => ?_
  refine onO (store2 m sc c 4 (g := 14) (g' := 15) rfl rfl (off18_eq c 3) rfl) ?_
  refine onS (step_recv m K c (0, 4) (n := 21) (a := 15) (a' := 16) rfl rfl (by decide) (by decide) rfl (by rfl)) ?_
  refine onS (load0 m K c 5 (n := 21) (a := 16) (by decide) (off13_eq c 4)) ?_
  refine onW (loadW m c) ?_
  exact part_ret c (with_fact ⟨rfl, rfl⟩)

theorem part25 (sc : F .f32) (c : Dev nD) (v8 v21 v757 : BitVec 32) (v760 : FVec F S176x4096 .fp8e4m3) (hv760 : v760 = k0_pay23 (xrow m (origin 0 (slotF 0 c 5)) 0)) (v761 : Vec F S4096x256 .fp8e4m3) (hv761 : v761 = w8 m c) :
    Mid m K sc c 21 16 15 ⊢ run c (atBufs k0_part25 c v8 v21 sc v757 v760 v761) fun v => iprop(⌜v.2 = k0_pay25 (xrow m (origin 1 (slotF 1 c 5)) 1) (w8 m c)⌝ ∗ Mid m K sc c 21 17 16) := by
  subst hv760 hv761
  simp only [atBufs, k0_part25_eq_skeleton, k0_part25_skel, Prog.lift, Prog.bind_op, Prog.bind_ret, Prog.pure_eq_ret]
  refine onP (peekO m sc c) fun _ => ?_
  refine onO (store0 m sc c 5 (g := 15) (g' := 16) rfl rfl (off14_eq c 4) rfl) ?_
  refine onS (step_recv m K c (1, 4) (n := 21) (a := 16) (a' := 17) rfl rfl (by decide) (by decide) rfl (by rfl)) ?_
  refine onS (load1 m K c 5 (n := 21) (a := 17) (by decide) (off15_eq c 4)) ?_
  refine onW (loadW m c) ?_
  exact part_ret c (with_fact rfl)

theorem part26 (sc : F .f32) (c : Dev nD) (v12 v25 v788 : BitVec 32) (v793 : FVec F S168x256 .f32) (hv793 : v793 = k0_pay25 (xrow m (origin 1 (slotF 1 c 5)) 1) (w8 m c)) :
    Mid m K sc c 21 17 16 ⊢ run c (atBufs k0_part26 c v12 v25 sc v788 v793) fun v => iprop(⌜v.2 = piece m sc c 2 5⌝ ∗ Mid m K sc c 21 18 17) := by
  subst hv793
  simp only [atBufs, k0_part26_eq_skeleton, k0_part26_skel, Prog.lift, Prog.bind_op, Prog.bind_ret, Prog.pure_eq_ret]
  refine onP (peekO m sc c) fun _ => ?_
  refine onO (store1 m sc c 5 (g := 16) (g' := 17) rfl rfl (off16_eq c 4) rfl) ?_
  refine onS (step_recv m K c (2, 4) (n := 21) (a := 17) (a' := 18) rfl rfl (by decide) (by decide) rfl (by rfl)) ?_
  refine onS (load2 m K c 5 (n := 21) (a := 18) (by decide) (off17_eq c 4)) ?_
  refine onW (loadW m c) ?_
  exact part_ret c (with_fact rfl)

theorem part27 (sc : F .f32) (c : Dev nD) (v13 v17 v819 : BitVec 32) (v826 : FVec F S168x256 .f32) (hv826 : v826 = piece m sc c 2 5) :
    Mid m K sc c 21 18 17 ⊢ run c (atBufs k0_part27 c v13 v17 sc v819 v826) fun v => iprop(⌜v.1 = piece m sc c 0 6⌝ ∗ Mid m K sc c 21 19 18) := by
  subst hv826
  simp only [atBufs, k0_part27_eq_skeleton, k0_part27_skel, Prog.lift, Prog.bind_op, Prog.bind_ret, Prog.pure_eq_ret]
  refine onP (peekO m sc c) fun _ => ?_
  refine onO (store2 m sc c 5 (g := 17) (g' := 18) rfl rfl (off18_eq c 4) rfl) ?_
  refine onS (step_recv m K c (0, 5) (n := 21) (a := 18) (a' := 19) rfl rfl (by decide) (by decide) rfl (by rfl)) ?_
  refine onS (load0 m K c 6 (n := 21) (a := 19) (by decide) (off13_eq c 5)) ?_
  refine onW (loadW m c) ?_
  exact part_ret c (with_fact rfl)

theorem part28 (sc : F .f32) (c : Dev nD) (v8 v21 v858 : BitVec 32) (v857 : FVec F S176x256 .f32) (hv857 : v857 = piece m sc c 0 6) :
    Mid m K sc c 21 19 18 ⊢ run c (atBufs k0_part28 c v8 v21 sc v857 v858) fun v => iprop(⌜v.1 = piece m sc c 1 6⌝ ∗ Mid m K sc c 21 20 19) := by
  subst hv857
  simp only [atBufs, k0_part28_eq_skeleton, k0_part28_skel, Prog.lift, Prog.bind_op, Prog.bind_ret, Prog.pure_eq_ret]
  refine onP (peekO m sc c) fun _ => ?_
  refine onO (store0 m sc c 6 (g := 18) (g' := 19) rfl rfl (off14_eq c 5) rfl) ?_
  refine onS (step_recv m K c (1, 5) (n := 21) (a := 19) (a' := 20) rfl rfl (by decide) (by decide) rfl (by rfl)) ?_
  refine onS (load1 m K c 6 (n := 21) (a := 20) (by decide) (off15_eq c 5)) ?_
  refine onW (loadW m c) ?_
  exact part_ret c (with_fact rfl)

theorem part29 (sc : F .f32) (c : Dev nD) (v12 v25 v890 : BitVec 32) (v888 : FVec F S168x256 .f32) (hv888 : v888 = piece m sc c 1 6) :
    Mid m K sc c 21 20 19 ⊢ run c (atBufs k0_part29 c v12 v25 sc v888 v890) fun v => iprop(⌜v = piece m sc c 2 6⌝ ∗ Mid m K sc c 21 21 20) := by
  subst hv888
  simp only [atBufs, k0_part29_eq_skeleton, k0_part29_skel, Prog.lift, Prog.bind_op, Prog.bind_ret, Prog.pure_eq_ret]
  refine onP (peekO m sc c) fun _ => ?_
  refine onO (store1 m sc c 6 (g := 19) (g' := 20) rfl rfl (off16_eq c 5) rfl) ?_
  refine onS (step_recv m K c (2, 5) (n := 21) (a := 20) (a' := 21) rfl rfl (by decide) (by decide) rfl (by rfl)) ?_
  refine onS (load2 m K c 6 (n := 21) (a := 21) (by decide) (off17_eq c 5)) ?_
  refine onW (loadW m c) ?_
  exact part_ret c (with_fact rfl)

theorem part30 (sc : F .f32) (c : Dev nD) (v13 v17 : BitVec 32) (v919 : FVec F S168x256 .f32) (hv919 : v919 = piece m sc c 2 6) :
    Mid m K sc c 21 21 20 ⊢ run c (atBufs k0_part30 c v13 v17 sc v919) fun _ => Mid m K sc c 21 22 22 := by
  subst hv919
  simp only [atBufs, k0_part30_eq_skeleton, k0_part30_skel, Prog.lift, Prog.bind_op, Prog.bind_ret, Prog.pure_eq_ret]
  refine onP (peekO m sc c) fun _ => ?_
  refine onO (store2 m sc c 6 (g := 20) (g' := 21) rfl rfl (off18_eq c 5) rfl) ?_
  refine onS (step_recv m K c (0, 6) (n := 21) (a := 21) (a' := 22) rfl rfl (by decide) (by decide) rfl (by rfl)) ?_
  refine onS (load0 m K c 7 (n := 21) (a := 22) (by decide) (off13_eq c 6)) ?_
  refine onW (loadW m c) ?_
  refine onP (peekO m sc c) fun _ => ?_
  refine onO (store0 m sc c 7 (g := 21) (g' := 22) rfl rfl (off14_eq c 6) rfl) ?_
  exact part_ret c (BI.Entails.refl _)

theorem part31 (sc : F .f32) (c : Dev nD) (v8 v21 v25 : BitVec 32) :
    Mid m K sc c 21 22 22 ⊢ run c (atBufs k0_part31 c v8 v21 v25 sc) fun _ => Mid m K sc c 21 23 23 := by
  simp only [atBufs, k0_part31_eq_skeleton, k0_part31_skel, Prog.lift, Prog.bind_op, Prog.bind_ret, Prog.pure_eq_ret]
  refine onS (step_recv m K c (1, 6) (n := 21) (a := 22) (a' := 23) rfl rfl (by decide) (by decide) rfl (by rfl)) ?_
  refine onS (load1 m K c 7 (n := 21) (a := 23) (by decide) (off15_eq c 6)) ?_
  refine onW (loadW m c) ?_
  refine onP (peekO m sc c) fun _ => ?_
  refine onO (store1 m sc c 7 (g := 22) (g' := 23) rfl rfl (off16_eq c 6) rfl) ?_
  exact part_ret c (BI.Entails.refl _)

theorem part32 (sc : F .f32) (c : Dev nD) (v12 v25 : BitVec 32) :
    Mid m K sc c 21 23 23 ⊢ run c (atBufs k0_part32 c v12 v25 sc) fun _ => Mid m K sc c 21 24 24 := by
  simp only [atBufs, k0_part32_eq_skeleton, k0_part32_skel, Prog.lift, Prog.bind_op, Prog.bind_ret, Prog.pure_eq_ret]
  refine onS (step_recv m K c (2, 6) (n := 21) (a := 23) (a' := 24) rfl rfl (by decide) (by decide) rfl (by rfl)) ?_
  refine onS (load2 m K c 7 (n := 21) (a := 24) (by decide) (off17_eq c 6)) ?_
  refine onW (loadW m c) ?_
  refine onP (peekO m sc c) fun _ => ?_
  refine onO (store2 m sc c 7 (g := 23) (g' := 24) rfl rfl (off18_eq c 6) rfl) ?_
  exact part_ret c (BI.Entails.refl _)

end Cert.BandGather

end
-- ==== Proof.Ending.lean ====
/-
The kernel's last stretch, part by part: the waits for the departures.
-/
module

public import proofs.«01_k».proof.Proof.Parts0

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

theorem part33 (R : sProp 𝕄) (c : Dev nD) :
    iprop(Bk m K c 0 ∗ R) ⊢ run c (atBufs k0_part33 c) fun _ => iprop(Bk m K c 4 ∗ R) := by
  simp only [atBufs, k0_part33_eq_skeleton, k0_part33_skel, Prog.lift, Prog.bind_op, Prog.bind_ret, Prog.pure_eq_ret]
  refine onS (step_back m K c (0, 0) (n := 0) (n' := 1) rfl rfl rfl (by rfl)) ?_
  refine onS (step_back m K c (1, 0) (n := 1) (n' := 2) rfl rfl rfl (by rfl)) ?_
  refine onS (step_back m K c (2, 0) (n := 2) (n' := 3) rfl rfl rfl (by rfl)) ?_
  refine onS (step_back m K c (0, 1) (n := 3) (n' := 4) rfl rfl rfl (by rfl)) ?_
  exact part_ret c (BI.Entails.refl _)

theorem part34 (R : sProp 𝕄) (c : Dev nD) :
    iprop(Bk m K c 4 ∗ R) ⊢ run c (atBufs k0_part34 c) fun _ => iprop(Bk m K c 8 ∗ R) := by
  simp only [atBufs, k0_part34_eq_skeleton, k0_part34_skel, Prog.lift, Prog.bind_op, Prog.bind_ret, Prog.pure_eq_ret]
  refine onS (step_back m K c (1, 1) (n := 4) (n' := 5) rfl rfl rfl (by rfl)) ?_
  refine onS (step_back m K c (2, 1) (n := 5) (n' := 6) rfl rfl rfl (by rfl)) ?_
  refine onS (step_back m K c (0, 2) (n := 6) (n' := 7) rfl rfl rfl (by rfl)) ?_
  refine onS (step_back m K c (1, 2) (n := 7) (n' := 8) rfl rfl rfl (by rfl)) ?_
  exact part_ret c (BI.Entails.refl _)

theorem part35 (R : sProp 𝕄) (c : Dev nD) :
    iprop(Bk m K c 8 ∗ R) ⊢ run c (atBufs k0_part35 c) fun _ => iprop(Bk m K c 13 ∗ R) := by
  simp only [atBufs, k0_part35_eq_skeleton, k0_part35_skel, Prog.lift, Prog.bind_op, Prog.bind_ret, Prog.pure_eq_ret]
  refine onS (step_back m K c (2, 2) (n := 8) (n' := 9) rfl rfl rfl (by rfl)) ?_
  refine onS (step_back m K c (0, 3) (n := 9) (n' := 10) rfl rfl rfl (by rfl)) ?_
  refine onS (step_back m K c (0, 4) (n := 10) (n' := 11) rfl rfl rfl (by rfl)) ?_
  refine onS (step_back m K c (1, 3) (n := 11) (n' := 12) rfl rfl rfl (by rfl)) ?_
  refine onS (step_back m K c (1, 4) (n := 12) (n' := 13) rfl rfl rfl (by rfl)) ?_
  exact part_ret c (BI.Entails.refl _)

theorem part36 (R : sProp 𝕄) (c : Dev nD) :
    iprop(Bk m K c 13 ∗ R) ⊢ run c (atBufs k0_part36 c) fun _ => iprop(Bk m K c 17 ∗ R) := by
  simp only [atBufs, k0_part36_eq_skeleton, k0_part36_skel, Prog.lift, Prog.bind_op, Prog.bind_ret, Prog.pure_eq_ret]
  refine onS (step_back m K c (2, 3) (n := 13) (n' := 14) rfl rfl rfl (by rfl)) ?_
  refine onS (step_back m K c (2, 4) (n := 14) (n' := 15) rfl rfl rfl (by rfl)) ?_
  refine onS (step_back m K c (0, 5) (n := 15) (n' := 16) rfl rfl rfl (by rfl)) ?_
  refine onS (step_back m K c (1, 5) (n := 16) (n' := 17) rfl rfl rfl (by rfl)) ?_
  exact part_ret c (BI.Entails.refl _)

end Cert.BandGather

end
-- ==== Proof.Whole.lean ====
/-
The whole kernel on one device: from what it starts with to what it leaves.
-/
module

public import proofs.«01_k».proof.Proof.Opening
public import proofs.«01_k».proof.Proof.Middle
public import proofs.«01_k».proof.Proof.Ending

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A part of a text, with what it does not touch. -/
theorem part_next (c : Dev nD) {α β : Type} {p : Prog (TpuEff nD τ sig (Elt F) Λ₀ .tc) α} {f : α → Prog (TpuEff nD τ sig (Elt F) Λ₀ .tc) β}
    {P₀ P R : sProp 𝕄} {Q' : α → sProp 𝕄} {Q : β → sProp 𝕄} (h0 : P₀ ⊢ iprop(P ∗ R)) (h1 : P ⊢ wp frame (wpE (defs₀ (F := F)) 𝒱₀ (c : Thread nD τ) none) Set.univ p Q')
    (h2 : ∀ v, iprop(Q' v ∗ R) ⊢ wp frame (wpE (defs₀ (F := F)) 𝒱₀ (c : Thread nD τ) none) Set.univ (f v) Q) :
    P₀ ⊢ wp frame (wpE (defs₀ (F := F)) 𝒱₀ (c : Thread nD τ) none) Set.univ (p >>= f) Q := by
  refine BI.Entails.trans h0 (BI.Entails.trans (sep_mono_left h1) ?_)
  refine BI.Entails.trans (wp_frame_r _ _ _) (BI.Entails.trans (wp_mono _ _ _ h2) ?_)
  exact Entails.of_eq (wp_bind ..).symm

theorem fact_next {φ : Prop} {P R A : sProp 𝕄} (h : φ → (iprop(P ∗ R) ⊢ A)) : iprop((⌜φ⌝ ∗ P) ∗ R) ⊢ A := by
  iintro ⟨⟨%hφ, HP⟩, HR⟩
  iapply (h hφ)
  isplitl [HP] <;> iassumption

/-- What the kernel starts with. -/
def bodyIn (c : Dev nD) (sx sw : S1.Idx → Elt F .f32) : sProp 𝕄 :=
  iprop(ctx m K ∗ owing c (owed0 c) ∗ (sigKit c 0 ∗ sigKit c 1 ∗ sigKit c 2) ∗ barWait c ∗ bigSep Finset.univ (sendKit0 c) ∗ bigSep Finset.univ (recvKit c)
    ∗ (locKit m c 0 ∗ locKit m c 1 ∗ locKit m c 2 ∗ locKit m c 3) ∗ scPts c sx sw
    ∗ (slotAny c 0 (slotF 0 c 0) ∗ slotAny c 1 (slotF 1 c 0) ∗ slotAny c 2 (slotF 2 c 0))
    ∗ (∃ f : S4096x256.Idx → Elt F .fp8e4m3, ((c : Thread nD τ).loc cc0_scratch3) ↦{fullShare} f)
    ∗ ∃ g : S4096x256.Idx → Elt F .f32, ((c : Thread nD τ).loc cc0_stg2_0) ↦{fullShare} g)

/-- What is done with before the main stretch. -/
def early (c : Dev nD) (sx sw : S1.Idx → Elt F .f32) : sProp 𝕄 :=
  iprop(semVal (barCell c) 0 ∗ scPts c sx sw ∗ locDone m c 0 ∗ locDone m c 1 ∗ locDone m c 2 ∗ locDone m c 3)

/-- What the kernel leaves. -/
def bodyOut (c : Dev nD) (sx sw : S1.Idx → Elt F .f32) : sProp 𝕄 :=
  iprop(Bk m K c 21 ∗ wPts m c ∗ outPts m (scOf sx sw) c 24 ∗ early m c sx sw)

theorem enter1 (c : Dev nD) (sx sw : S1.Idx → Elt F .f32) : bodyIn m K c sx sw ⊢ iprop((ctx m K ∗ owing c (owed0 c) ∗ sigKit c 0 ∗ sigKit c 1)
    ∗ (ctx m K ∗ sigKit c 2 ∗ barWait c ∗ bigSep Finset.univ (sendKit0 c) ∗ bigSep Finset.univ (recvKit c)
      ∗ (locKit m c 0 ∗ locKit m c 1 ∗ locKit m c 2 ∗ locKit m c 3) ∗ scPts c sx sw ∗ slotAny c 0 (slotF 0 c 0))
    ∗ (slotAny c 1 (slotF 1 c 0) ∗ slotAny c 2 (slotF 2 c 0)
      ∗ (∃ f : S4096x256.Idx → Elt F .fp8e4m3, ((c : Thread nD τ).loc cc0_scratch3) ↦{fullShare} f)
      ∗ outPts m (scOf sx sw) c 0)) := by
  unfold bodyIn
  iintro ⟨#HC, HO, ⟨H0, H1, H2⟩, HB, HS, HR, HL, Hsc, ⟨Hs0, Hs1, Hs2⟩, Hw, ⟨%g, Hg⟩⟩
  isplitl [HO H0 H1]
  · isplitr; · iexact HC
    isplitl [HO]; · iexact HO
    isplitl [H0] <;> iassumption
  isplitl [H2 HB HS HR HL Hsc Hs0]
  · isplitr; · iexact HC
    isplitl [H2]; · iexact H2
    isplitl [HB]; · iexact HB
    isplitl [HS]; · iexact HS
    isplitl [HR]; · iexact HR
    isplitl [HL]; · iexact HL
    isplitl [Hsc] <;> iassumption
  isplitl [Hs1]; · iexact Hs1
  isplitl [Hs2]; · iexact Hs2
  isplitl [Hw]; · iexact Hw
  unfold outPts
  iexists g
  isplitr; · ipureintro; exact fun i h => absurd h (Nat.not_lt_zero _)
  iexact Hg

/-- The weight and the result join the state. -/
theorem enter7 (c : Dev nD) (sx sw : S1.Idx → Elt F .f32) :
    iprop((St m K c 9 3 ∗ wPts m c ∗ locDone m c 3) ∗ outPts m (scOf sx sw) c 0 ∗ semVal (barCell c) 0 ∗ scPts c sx sw ∗ locDone m c 0 ∗ locDone m c 1 ∗ locDone m c 2)
      ⊢ iprop(Mid m K (scOf sx sw) c 9 3 0 ∗ early m c sx sw) := by
  unfold early
  iintro ⟨⟨HS, Hw, Hl3⟩, Ho, Hz, Hsc, Hl0, Hl1, Hl2⟩
  isplitl [HS Hw Ho]
  · isplitl [HS]; · iexact HS
    isplitl [Hw] <;> iassumption
  isplitl [Hz]; · iexact Hz
  isplitl [Hsc]; · iexact Hsc
  isplitl [Hl0]; · iexact Hl0
  isplitl [Hl1]; · iexact Hl1
  isplitl [Hl2] <;> iassumption

/-- When every piece is computed, the departures remain to be waited for. -/
theorem enter33 (c : Dev nD) (sx sw : S1.Idx → Elt F .f32) :
    iprop(Mid m K (scOf sx sw) c 21 24 24 ∗ early m c sx sw) ⊢ iprop(Bk m K c 0 ∗ wPts m c ∗ outPts m (scOf sx sw) c 24 ∗ early m c sx sw) := by
  iintro ⟨⟨HS, Hw, Ho⟩, He⟩
  isplitl [HS]; · iapply (St_Bk m K c); iexact HS
  isplitl [Hw]; · iexact Hw
  isplitl [Ho] <;> iassumption

theorem exists_next {ι : Type} {P T O A : sProp 𝕄} {Φ : ι → sProp 𝕄} (h : ∀ f, iprop(P ∗ T ∗ Φ f ∗ O) ⊢ A) : iprop(P ∗ T ∗ (∃ f, Φ f) ∗ O) ⊢ A := by
  iintro ⟨HP, HT, ⟨%f, HF⟩, HO⟩
  iapply (h f)
  isplitl [HP]; · iexact HP
  isplitl [HT]; · iexact HT
  isplitl [HF] <;> iassumption

set_option maxRecDepth 100000 in
/-- The kernel, part after part, up to the last two waits. -/
theorem run_parts (c : Dev nD) (sx sw : S1.Idx → Elt F .f32) :
    bodyIn m K c sx sw ⊢ run c (atBufs (k0_part37 (F := F))) fun d => iprop(⌜d = c⌝ ∗ Bk m K c 19 ∗ wPts m c ∗ outPts m (scOf sx sw) c 24 ∗ early m c sx sw) := by
  unfold atBufs
  rw [k0_part37_eq_skeleton]
  unfold k0_part37_skel
  refine part_next c (enter1 m K c sx sw) (part1 m K c) ?_
  rintro ⟨d0, v8, v12, v13, v17, v21, v25, v26, v31⟩
  dsimp only
  refine fact_next fun ⟨h0, h26⟩ => ?_
  subst d0
  refine part_next c (R := iprop(slotAny c 1 (slotF 1 c 0) ∗ slotAny c 2 (slotF 2 c 0)
      ∗ (∃ f : S4096x256.Idx → Elt F .fp8e4m3, ((c : Thread nD τ).loc cc0_scratch3) ↦{fullShare} f) ∗ outPts m (scOf sx sw) c 0)) ?_ (part2 m K c sx sw v8 v17 v31 v26 h26) fun v46 => ?_
  · iintro ⟨HO, ⟨#HC, H2⟩, HR⟩
    isplitl [HO H2]
    · isplitr; · iexact HC
      isplitl [HO]; · iexact HO
      iexact H2
    iexact HR
  refine fact_next fun h46 => ?_
  subst h46
  refine part_next c (R := iprop((semVal (barCell c) 0 ∗ scPts c sx sw ∗ locDone m c 0 ∗ locRun c 3) ∗ slotAny c 2 (slotF 2 c 0)
      ∗ (∃ f : S4096x256.Idx → Elt F .fp8e4m3, ((c : Thread nD τ).loc cc0_scratch3) ↦{fullShare} f) ∗ outPts m (scOf sx sw) c 0)) ?_ (part3 m K c v12 v21) fun v88 => ?_
  · iintro ⟨⟨HS, Hz, Hsc, Hl0, Hl1, Hl2, Hl3⟩, Hs1, HR⟩
    isplitl [HS Hl1 Hl2 Hs1]
    · isplitl [HS]; · iexact HS
      isplitl [Hl1]; · iexact Hl1
      isplitl [Hl2] <;> iassumption
    isplitl [Hz Hsc Hl0 Hl3]
    · isplitl [Hz]; · iexact Hz
      isplitl [Hsc]; · iexact Hsc
      isplitl [Hl0] <;> iassumption
    iexact HR
  refine fact_next fun h88 => ?_
  refine part_next c (R := iprop((semVal (barCell c) 0 ∗ scPts c sx sw ∗ locDone m c 0 ∗ locDone m c 1 ∗ locDone m c 2 ∗ locRun c 3)
      ∗ (∃ f : S4096x256.Idx → Elt F .fp8e4m3, ((c : Thread nD τ).loc cc0_scratch3) ↦{fullShare} f) ∗ outPts m (scOf sx sw) c 0)) ?_ (part4 m K c v12 v13 v25 v88 h88) fun _ => ?_
  · iintro ⟨⟨HS, Hl1, Hl2⟩, ⟨Hz, Hsc, Hl0, Hl3⟩, Hs2, HR⟩
    isplitl [HS Hs2]
    · isplitl [HS] <;> iassumption
    isplitl [Hz Hsc Hl0 Hl1 Hl2 Hl3]
    · isplitl [Hz]; · iexact Hz
      isplitl [Hsc]; · iexact Hsc
      isplitl [Hl0]; · iexact Hl0
      isplitl [Hl1]; · iexact Hl1
      isplitl [Hl2] <;> iassumption
    iexact HR
  refine part_next c (BI.Entails.refl _) (part5 m K c v8 v13) fun _ => ?_
  refine exists_next fun f => ?_
  refine part_next c (R := iprop(outPts m (scOf sx sw) c 0 ∗ semVal (barCell c) 0 ∗ scPts c sx sw ∗ locDone m c 0 ∗ locDone m c 1 ∗ locDone m c 2)) ?_ (part6 m K c v12 v17 f) ?_
  · iintro ⟨HS, ⟨Hz, Hsc, Hl0, Hl1, Hl2, Hl3⟩, Hw, Ho⟩
    isplitl [HS Hl3 Hw]
    · isplitl [HS]; · iexact HS
      isplitl [Hl3] <;> iassumption
    isplitl [Ho]; · iexact Ho
    isplitl [Hz]; · iexact Hz
    isplitl [Hsc]; · iexact Hsc
    isplitl [Hl0]; · iexact Hl0
    isplitl [Hl1] <;> iassumption
  rintro ⟨v180, v183, v184⟩
  dsimp only
  refine fact_next fun ⟨h183, h184⟩ => ?_
  refine part_next c (R := early m c sx sw) (enter7 m K c sx sw) (part7 m K (scOf sx sw) c v21 v25 v180 v183 h183 v184 h184) ?_
  rintro ⟨v213, v215, v217, c4⟩
  dsimp only
  refine part_next c (BI.Entails.refl _) (part8 m K (scOf sx sw) c v8 v12 v17 v25 v213 v215 v217 c4) ?_
  intro _
  refine part_next c (BI.Entails.refl _) (part9 m K (scOf sx sw) c v12 v13 v17 v21) ?_
  intro _
  refine part_next c (BI.Entails.refl _) (part10 m K (scOf sx sw) c v8 v13 v21 v25) ?_
  intro _
  refine part_next c (BI.Entails.refl _) (part11 m K (scOf sx sw) c v12 v17 v25) ?_
  rintro ⟨v337, v344⟩
  dsimp only
  refine fact_next fun hv344 => ?_
  refine part_next c (BI.Entails.refl _) (part12 m K (scOf sx sw) c v21 v25 v337 v344 hv344) ?_
  rintro ⟨v371, v372, v374, v376, c5⟩
  dsimp only
  refine part_next c (BI.Entails.refl _) (part13 m K (scOf sx sw) c v12 v13 v17 v371 v372 v374 v376 c5) ?_
  intro _
  refine part_next c (BI.Entails.refl _) (part14 m K (scOf sx sw) c v8 v13 v21 v25) ?_
  intro _
  refine part_next c (BI.Entails.refl _) (part15 m K (scOf sx sw) c v12 v17 v25) ?_
  rintro ⟨v470, v471, c0⟩
  dsimp only
  refine fact_next fun hv470 => ?_
  refine part_next c (BI.Entails.refl _) (part16 m K (scOf sx sw) c v21 v25 v471 c0 v470 hv470) ?_
  rintro ⟨v497, v500, v502, v503, v504⟩
  dsimp only
  refine part_next c (BI.Entails.refl _) (part17 m K (scOf sx sw) c v12 v13 v17 v497 v500 v502 v503 v504) ?_
  intro _
  refine part_next c (BI.Entails.refl _) (part18 m K (scOf sx sw) c v8 v13 v21 v25) ?_
  intro _
  refine part_next c (BI.Entails.refl _) (part19 m K (scOf sx sw) c v12 v17 v25) ?_
  intro v596
  dsimp only
  refine fact_next fun hv596 => ?_
  refine part_next c (BI.Entails.refl _) (part20 m K (scOf sx sw) c v21 v25 v596 hv596) ?_
  rintro ⟨v623, v633⟩
  dsimp only
  refine part_next c (BI.Entails.refl _) (part21 m K (scOf sx sw) c v13 v17 v623 v633) ?_
  intro v664
  refine part_next c (BI.Entails.refl _) (part22 m K (scOf sx sw) c v8 v21 v664) ?_
  rintro ⟨v695, v697⟩
  dsimp only
  refine fact_next fun hv697 => ?_
  refine part_next c (BI.Entails.refl _) (part23 m K (scOf sx sw) c v12 v25 v695 v697 hv697) ?_
  rintro ⟨v726, v729⟩
  dsimp only
  refine fact_next fun hv729 => ?_
  refine part_next c (BI.Entails.refl _) (part24 m K (scOf sx sw) c v13 v17 v726 v729 hv729) ?_
  rintro ⟨v757, v760, v761⟩
  dsimp only
  refine fact_next fun ⟨hv760, hv761⟩ => ?_
  refine part_next c (BI.Entails.refl _) (part25 m K (scOf sx sw) c v8 v21 v757 v760 hv760 v761 hv761) ?_
  rintro ⟨v788, v793⟩
  dsimp only
  refine fact_next fun hv793 => ?_
  refine part_next c (BI.Entails.refl _) (part26 m K (scOf sx sw) c v12 v25 v788 v793 hv793) ?_
  rintro ⟨v819, v826⟩
  dsimp only
  refine fact_next fun hv826 => ?_
  refine part_next c (BI.Entails.refl _) (part27 m K (scOf sx sw) c v13 v17 v819 v826 hv826) ?_
  rintro ⟨v857, v858⟩
  dsimp only
  refine fact_next fun hv857 => ?_
  refine part_next c (BI.Entails.refl _) (part28 m K (scOf sx sw) c v8 v21 v858 v857 hv857) ?_
  rintro ⟨v888, v890⟩
  dsimp only
  refine fact_next fun hv888 => ?_
  refine part_next c (BI.Entails.refl _) (part29 m K (scOf sx sw) c v12 v25 v890 v888 hv888) ?_
  intro v919
  dsimp only
  refine fact_next fun hv919 => ?_
  refine part_next c (BI.Entails.refl _) (part30 m K (scOf sx sw) c v13 v17 v919 hv919) ?_
  intro _
  refine part_next c (BI.Entails.refl _) (part31 m K (scOf sx sw) c v8 v21 v25) ?_
  intro _
  refine part_next c (BI.Entails.refl _) (part32 m K (scOf sx sw) c v12 v25) ?_
  intro _
  refine BI.Entails.trans (enter33 m K c sx sw) ?_
  refine part_bind c (part33 m K _ c) fun _ => ?_
  refine part_bind c (part34 m K _ c) fun _ => ?_
  refine part_bind c (part35 m K _ c) fun _ => ?_
  refine part_bind c (part36 m K _ c) fun _ => ?_
  simp only [Prog.lift, Prog.bind_op, Prog.bind_ret, Prog.pure_eq_ret]
  refine onS (step_back m K c (2, 5) (n := 17) (n' := 18) rfl rfl rfl (by rfl)) ?_
  refine onS (step_back m K c (0, 6) (n := 18) (n' := 19) rfl rfl rfl (by rfl)) ?_
  refine part_ret c ?_
  iintro H
  isplitr; · ipureintro; exact rfl
  iexact H

/-- The whole kernel. -/
theorem run_body (c : Dev nD) (sx sw : S1.Idx → Elt F .f32) :
    bodyIn m K c sx sw ⊢ run c (atBufs (cc0_body (F := F))) fun _ => bodyOut m K c sx sw := by
  unfold atBufs bodyOut
  rw [cc0_body_eq_skeleton]
  unfold cc0_body_skel
  refine part_bind c (run_parts m K c sx sw) fun d => by_fact fun h => ?_
  obtain rfl := h.symm
  simp only [Prog.lift, Prog.bind_op, Prog.bind_ret, Prog.pure_eq_ret]
  refine onS (step_back m K c (1, 6) (n := 19) (n' := 20) rfl rfl rfl (by rfl)) ?_
  refine onS (step_back m K c (2, 6) (n := 20) (n' := 21) rfl rfl rfl (by rfl)) ?_
  exact part_ret c (BI.Entails.refl _)

end Cert.BandGather

end
-- ==== Proof.Ghost.lean ====
/-
What the launch makes of the exchange's semaphores, and how it is dealt among the devices.
-/
module

public import proofs.«01_k».proof.Proof.Start

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the launch makes -/

theorem ownSemFacts : Pipeline.OwnSemFacts cfg0.spec osem where
  isScoped := by decide +kernel
  inj := fun a b h => Sum.inr.inj (csem_injective (a₁ := .inr a) (a₂ := .inr b) h)
  disj := by decide +kernel

/-- Every cell of every device. -/
def cells : Finset (GSem nD τ sig) := Finset.univ.map ⟨fun p : Dev nD × CIx => cellAt p.1 p.2, cellAt_injective⟩

/-- Which duty: the barrier's one of an axis, or the single one of another cell. -/
abbrev TIx : Type := Fin 3 ⊕ OIx
def tokOf (p : Dev nD × TIx) : GSem nD τ sig × ℕ × Fin 3 :=
  match p.2 with
  | .inl a => (barCell p.1, 0, a)
  | .inr o => (cellAt p.1 (.inr o), 0, 0)
theorem tokOf_injective : Function.Injective tokOf := by
  rintro ⟨c, t⟩ ⟨c', t'⟩ h
  have h1 := congrArg Prod.fst h
  have h2 := congrArg (fun x => x.2.2) h
  rcases t with a | o <;> rcases t' with a' | o' <;> dsimp only [tokOf] at h1 h2
  · have e := @cellAt_injective (c, .inl ()) (c', .inl ()) h1
    subst h2; rw [show c = c' from congrArg Prod.fst e]
  · exact absurd (congrArg Prod.snd (@cellAt_injective (c, .inl ()) (c', .inr o') h1)) (by intro h'; cases h')
  · exact absurd (congrArg Prod.snd (@cellAt_injective (c, .inr o) (c', .inl ()) h1)) (by intro h'; cases h')
  · have e := @cellAt_injective (c, .inr o) (c', .inr o') h1
    rw [show c = c' from congrArg Prod.fst e, show o = o' from Sum.inr.inj (congrArg Prod.snd e)]
def tokSet : Finset (GSem nD τ sig × ℕ × Fin 3) := Finset.univ.map ⟨tokOf, tokOf_injective⟩

/-- The launch element: the pipeline's cells, and the exchange's. -/
def u₀ : UU := (initOf (Pipeline.cells cfgs cellOf_inj) (Pipeline.launchToks cfgs cellOf_inj), initOf cells tokSet)

/-- The rights to pay device `c`'s own cells. -/
def toks (c : Dev nD) : sProp 𝕄 :=
  iprop((bigSep Finset.univ fun a : Fin 3 => dutyTok ER (barCell c) 0 a) ∗ (bigSep Finset.univ fun i : Snd => dutyTok ER (sendCell i c) 0 0)
    ∗ (bigSep Finset.univ fun i : Snd => dutyTok ER (recvCell i c) 0 0) ∗ bigSep Finset.univ fun l : Fin 4 => dutyTok ER (locCell l c) 0 0)
/-- The rights device `c` pays with: its neighbours' barriers, its peers' receive cells, its own send and local cells. -/
def pays (c : Dev nD) : sProp 𝕄 :=
  iprop((bigSep Finset.univ fun a : Fin 3 => dutyTok ER (barCell (nbr a c)) 0 a) ∗ (bigSep Finset.univ fun i : Snd => dutyTok ER (sendCell i c) 0 0)
    ∗ (bigSep Finset.univ fun i : Snd => dutyTok ER (recvCell i (peer i c)) 0 0) ∗ bigSep Finset.univ fun l : Fin 4 => dutyTok ER (locCell l c) 0 0)
/-- Its places at its own cells. -/
def places (c : Dev nD) : sProp 𝕄 := bigSep Finset.univ fun k : CIx => atPos ER (cellAt c k) 0 ∅ 0

/-- What the launch element deals device `c`; -/
def G (c : Dev nD) : sProp 𝕄 :=
  iprop((bigSep Finset.univ fun k : CIx => roundState ER (sched m) (cellAt c k) 0) ∗ places c
    ∗ (bigSep Finset.univ fun k : CIx => reached ER (cellAt c k) 0) ∗ toks c)
/-- and what the devices together make of it. -/
def G' (c : Dev nD) : sProp 𝕄 := iprop(∃ K, recs m K ∗ places c ∗ pays c)

/-- A bag of pairs is a pair of bags. -/
theorem bag_pair {I : Type} [DecidableEq I] (s : Finset I) (Φ Ψ : I → sProp 𝕄) : (bigSep s fun i => iprop(Φ i ∗ Ψ i)) = iprop(bigSep s Φ ∗ bigSep s Ψ) := bigSep_sep s Φ Ψ
theorem bag_one (Φ : Unit → sProp 𝕄) : bigSep Finset.univ Φ = Φ () := bigSep_singleton ..
/-- What is indexed by the cells of a device, sorted. -/
theorem bag_cells (Φ : CIx → sProp 𝕄) : bigSep Finset.univ Φ
    = iprop(Φ (.inl ()) ∗ (bigSep Finset.univ fun i : Snd => Φ (.inr (.inl i))) ∗ (bigSep Finset.univ fun i : Snd => Φ (.inr (.inr (.inl i))))
      ∗ bigSep Finset.univ fun l : Fin 4 => Φ (.inr (.inr (.inr l)))) := by
  rw [bigSep_univ_sum, bag_one, bigSep_univ_sum, bigSep_univ_sum]; rfl

theorem deal : BI.own (ER (initOf cells tokSet)) ⊢ (|==> bigSep Finset.univ (G m) : sProp 𝕄) := by
  have hX (Φ : GSem nD τ sig → sProp 𝕄) : bigSep cells Φ = bigSep Finset.univ fun c : Dev nD => bigSep Finset.univ fun k : CIx => Φ (cellAt c k) := by
    unfold cells; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_univ_sum, bigSep_univ_sum, bigSep_univ_sum]; rfl
  iintro HX
  imod (Rounds.fund ER (sched m) cells tokSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bag_pair]
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun i : Snd => semVal (sendCell i c) 0) ∗ (bigSep Finset.univ fun i : Snd => semVal (recvCell i c) 0)
      ∗ bigSep Finset.univ fun l : Fin 4 => semVal (locCell l c) 0) := by
  unfold Pipeline.ownSems0; rw [bigSep_univ_sum, bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores go under the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cellAt c k)))
          ∗ places c ∗ (bigSep Finset.univ fun k : CIx => reached ER (cellAt c k) 0) ∗ toks c) := by
  unfold G
  rw [ownSems0_eq, unscopedSems0_eq]
  iintro ⟨⟨HS, HR, HL⟩, HB, Hst, Hat, Hr, Htok⟩
  ihave Hv := (Entails.of_eq (bag_cells (F := F) fun k => semVal (cellAt c k) 0).symm) $$ [HS HR HL HB]
  · isplitl [HB]; · iexact HB
    isplitl [HS]; · iexact HS
    isplitl [HR] <;> iassumption
  imod (show iprop((bigSep Finset.univ fun k : CIx => semVal (cellAt c k) 0) ∗ bigSep Finset.univ fun k : CIx => roundState ER (sched m) (cellAt c k) 0)
      ⊢ (|={Set.univ}=> bigSep Finset.univ fun k => iprop(∃ κ : ℕ, cellInv ER (sched m) κ (cellAt c k)) : sProp 𝕄) from by
        rw [← bag_pair]
        exact (bigSep_mono fun k _ => (Rounds.body_intro ER (sched m) (cellAt c k)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- What every device has of its neighbour along an axis is what every device has. -/
theorem around {I : Type} [Fintype I] (e : I → Dev nD ≃ Dev nD) (Φ : Dev nD → I → sProp 𝕄) :
    (bigSep Finset.univ fun c => bigSep Finset.univ (Φ c)) = bigSep Finset.univ fun c => bigSep Finset.univ fun i => Φ (e i c) i := by
  rw [Pipeline.bigSep_univ_comm, Pipeline.bigSep_univ_comm (fun c i => Φ (e i c) i)]
  exact bigSep_congr fun i _ => bigSep_univ_equiv (e i) _

theorem toks_around : (bigSep Finset.univ fun c : Dev nD => (toks c : sProp 𝕄)) = bigSep Finset.univ fun c : Dev nD => pays c := by
  unfold toks pays
  simp only [bag_pair]
  rw [around nbrEquiv fun c a => (dutyTok ER (barCell c) 0 a : sProp 𝕄), around (fun i => nbrEquiv (dirOf i)) fun c i => (dutyTok ER (recvCell i c) 0 0 : sProp 𝕄)]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bag_pair]; exact bigSep_mono h)

theorem regroup :
    (bigSep Finset.univ fun c : Dev nD => iprop((bigSep Finset.univ fun k => iprop(∃ κ : ℕ, cellInv ER (sched m) κ (cellAt c k)))
          ∗ places c ∗ (bigSep Finset.univ fun k : CIx => reached ER (cellAt c k) 0) ∗ toks c) : sProp 𝕄)
      ⊢ bigSep Finset.univ (G' m) := by
  rw [bag_pair, bag_pair, bag_pair, ← bigSep_univ_prod (fun p : Dev nD × CIx => iprop(∃ κ : ℕ, cellInv ER (sched m) κ (cellAt p.1 p.2))),
    ← bigSep_univ_prod (fun p : Dev nD × CIx => (reached ER (cellAt p.1 p.2) 0 : sProp 𝕄)), toks_around]
  iintro ⟨HI, Hat, #HR, Htok⟩
  ihave HK := (BI.bigSep_exists_pi Finset.univ (fun (p : Dev nD × CIx) (κ : ℕ) => (cellInv ER (sched m) κ (cellAt p.1 p.2) : sProp 𝕄))) $$ HI
  icases HK with ⟨%K, #HI⟩
  iapply (with_persistent (R := recs m K) (Φ := fun c => iprop(places c ∗ pays c)) fun c _ => ?_)
  · iintro ⟨#Hr, Hp, Hy⟩
    unfold G'
    iexists K
    isplitr; · iexact Hr
    isplitl [Hp] <;> iassumption
  rw [bag_pair]
  isplitr
  · unfold recs
    rw [bag_pair]
    isplitr; · iexact HI
    iexact HR
  isplitl [Hat] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq_iff {a b : Dev nD} {k l : CIx} : Iff (cellAt a k = cellAt b l) (a = b ∧ k = l) :=
  ⟨fun h => Prod.mk.inj (@cellAt_injective (a, k) (b, l) h), fun h => by rw [h.1, h.2]⟩

theorem owed_bar (d c : Dev nD) : owed0 d (barCell c) () = (if c = nbr 2 d then 1 else 0) + (if c = nbr 1 d then 1 else 0) + (if c = nbr 0 d then 1 else 0) := by
  unfold owed0 owed1 owed2
  have h : owed d 0 (barCell c) () = 0 := Nat.eq_zero_of_not_pos fun hp => by
    obtain ⟨i, -, h⟩ := owed_mem hp
    exact absurd (cell_eq_iff.mp h).2 (by intro h'; cases h')
  have e : ∀ b, barCell c = barCell b ↔ c = b := fun b => by rw [cell_eq_iff]; exact ⟨fun h => h.1, fun h => ⟨h, rfl⟩⟩
  simp only [Pi.add_apply, Finsupp.add_apply, h, tallyAt_apply, Nat.zero_add, _root_.and_true, e]

theorem owed_recv (d c : Dev nD) (i : Snd) : owed0 d (recvCell i c) () = if d = peer i c then crd i.1 else 0 := by
  have n : ∀ b, recvCell i c = barCell b ↔ False := fun b => ⟨fun h => absurd (cell_eq_iff.mp h).2 (by intro h'; cases h'), False.elim⟩
  have e : ∀ j, recvCell i c = recvCell j (peer j d) ↔ (j = i ∧ d = peer i c) := fun j => by
    rw [cell_eq_iff]
    refine ⟨fun h => ?_, fun h => ?_⟩
    · have hj : j = i := (Sum.inl.inj (Sum.inr.inj (Sum.inr.inj h.2))).symm
      subst hj
      exact ⟨rfl, by rw [h.1, peer_peer]⟩
    · obtain ⟨rfl, rfl⟩ := h
      exact ⟨(peer_peer _ _).symm, rfl⟩
  unfold owed0 owed1 owed2 owed
  simp only [Pi.add_apply, Finsupp.add_apply, tallyAt_apply, _root_.and_true, n, if_false, Nat.add_zero]
  rw [Finset.sum_apply, Finsupp.finset_sum_apply]
  simp only [tallyAt_apply, _root_.and_true, e]
  rw [left_all]
  by_cases h : d = peer i c
  · simp only [h, _root_.and_true, if_true]
    rw [Finset.sum_ite_eq' Finset.univ i fun j => crd j.1, if_pos (Finset.mem_univ _)]
  · simp only [h, _root_.and_false, if_false]
    exact Finset.sum_const_zero

theorem launch_bar (c : Dev nD) : tallyOn (barCell c) (launchCredit (Pipeline.owing owed0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (i : Snd) :
    tallyOn (recvCell i c) (launchCredit (Pipeline.owing owed0) 0 (recvCell i c)) = (tallyAt (recvCell i c) () (crd i.1) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer i c) fun _ => crd i.1, if_pos (Finset.mem_univ _)]

/-- What the launch deals a device of credit: its barrier's three units, and every arrival's. -/
theorem creds (c : Dev nD) :
    (Pipeline.launchCred owed0 c : sProp 𝕄) ⊢ iprop(cred (tallyAt (barCell c) () 3) ∗ bigSep Finset.univ fun i : Snd => cred (tallyAt (recvCell i c) () (crd i.1))) := by
  unfold Pipeline.launchCred
  refine BI.Entails.trans (bigSep_subset (t := Finset.univ.map ⟨csem, csem_injective⟩) (Finset.subset_univ _)) ?_
  rw [bigSep_map, bag_cells]
  refine BI.sep_mono (Entails.of_eq (congrArg cred (launch_bar c))) ?_
  show (_ : sProp 𝕄) ⊢ _
  iintro ⟨-, H, -⟩
  iapply (Entails.of_eq (bigSep_congr fun i _ => congrArg cred (launch_recv c i)))
  iexact H

/-! ## What the kernel starts with, of that -/

/-- A device's share of the launch, beside its memory: the rights of its transfers and its local copies. -/
theorem start_ghost (c : Dev nD) : iprop(places (F := F) c ∗ pays c ∗ Pipeline.launchCred owed0 c) ⊢
    iprop((dutyTok ER (barCell (nbr 0 c)) 0 0 ∗ dutyTok ER (barCell (nbr 1 c)) 0 1 ∗ dutyTok ER (barCell (nbr 2 c)) 0 2) ∗ barWait c
      ∗ bigSep Finset.univ (sendKit0 c) ∗ bigSep Finset.univ (recvKit c)
      ∗ bigSep Finset.univ fun l : Fin 4 => iprop(dutyTok ER (locCell l c) 0 0 ∗ atPos ER (locCell l c) 0 ∅ 0)) := by
  refine BI.Entails.trans (sep_mono_right (sep_mono_right (creds c))) ?_
  unfold places pays barWait
  rw [bag_cells]
  rw [show (bigSep Finset.univ fun a : Fin 3 => (dutyTok ER (barCell (nbr a c)) 0 a : sProp 𝕄))
    = iprop(dutyTok ER (barCell (nbr 0 c)) 0 0 ∗ dutyTok ER (barCell (nbr 1 c)) 0 1 ∗ dutyTok ER (barCell (nbr 2 c)) 0 2) from bigSep_univ_eq_bigSepL [0, 1, 2] (by decide) (by decide) _]
  show (_ : sProp 𝕄) ⊢ _
  iintro ⟨⟨HaB, HaS, HaR, HaL⟩, ⟨HtB, HtS, HtR, HtL⟩, HcB, HcR⟩
  isplitl [HtB]; · iexact HtB
  isplitl [HcB HaB]
  · isplitl [HcB] <;> iassumption
  isplitl [HtS HtR HaS]
  · iapply (Entails.of_eq (show iprop((bigSep Finset.univ fun i : Snd => (dutyTok ER (sendCell i c) 0 0 : sProp 𝕄)) ∗ (bigSep Finset.univ fun i : Snd => dutyTok ER (recvCell i (peer i c)) 0 0)
        ∗ bigSep Finset.univ fun i : Snd => atPos ER (sendCell i c) 0 ∅ 0) = bigSep Finset.univ (sendKit0 c) from by
      rw [← bag_pair, ← bag_pair]; rfl))
    isplitl [HtS]; · iexact HtS
    isplitl [HtR] <;> iassumption
  isplitl [HcR HaR]
  · iapply (Entails.of_eq (show iprop((bigSep Finset.univ fun i : Snd => (cred (tallyAt (recvCell i c) () (crd i.1)) : sProp 𝕄))
        ∗ bigSep Finset.univ fun i : Snd => atPos ER (recvCell i c) 0 ∅ 0) = bigSep Finset.univ (recvKit c) from by
      rw [← bag_pair]; rfl))
    isplitl [HcR] <;> iassumption
  rw [bag_pair]
  isplitl [HtL] <;> iassumption

end Cert.BandGather

end
-- ==== Proof.Buffers.lean ====
/-
The buffers of one device cut into the parts the exchange works on, and put together again.
-/
module

public import proofs.«01_k».proof.Proof.Ghost

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A whole buffer is its parts, when every index lies in one of them. -/
theorem whole_parts {T : Type} [Fintype T] [DecidableEq T] {ℓ : Loc nD τ sig} (S : T → Finset (Idx ℓ)) (ix : Idx ℓ → T) (h : ∀ t i, i ∈ S t ↔ ix i = t)
    (q : PosShare TreeShare) (f : Buf (Elt F) ℓ) : (ℓ ↦{q} f : sProp 𝕄) = bigSep Finset.univ fun t => ℓ ↦[S t]{q} f := by
  rw [← pointsTo_biUnion Finset.univ S fun t _ t' _ hne => Finset.disjoint_left.mpr fun i h1 h2 => hne (((h t i).mp h1).symm.trans ((h t' i).mp h2))]
  rw [show Finset.univ.biUnion S = Finset.univ from Finset.eq_univ_of_forall fun i => Finset.mem_biUnion.mpr ⟨ix i, Finset.mem_univ _, (h _ i).mpr rfl⟩]

/-! ## The slots of a band's buffer -/

theorem slot_rows {n : ℕ} {off size : Fin 3 → ℕ} {h : ∀ a, off a + size a ≤ (⟨3, ![8, n, 4096]⟩ : Shape).size a} {σ : Fin 8} (ho : off = ![σ.val, 0, 0]) (hs : size = ![1, n, 4096])
    (i : (⟨3, ![8, n, 4096]⟩ : Shape).Idx) : i ∈ (Rect.unit (s := ⟨3, ![8, n, 4096]⟩) off size h).set ↔ (i 0 : Fin 8) = σ := by
  subst ho hs
  rw [Rect.mem_set_unit]
  refine ⟨fun hi => Fin.ext ?_, fun hi a => ?_⟩
  · have h0 := hi 0
    simp only [Matrix.cons_val_zero] at h0
    omega
  · have ha := (i a).isLt
    match a with
    | 0 => subst hi; exact ⟨le_rfl, Nat.lt_succ_self _⟩
    | 1 => exact ⟨Nat.zero_le _, by rw [show (![(σ : ℕ), 0, 0] : Fin 3 → ℕ) 1 = 0 from rfl, Nat.zero_add]; exact ha⟩
    | 2 => exact ⟨Nat.zero_le _, by rw [show (![(σ : ℕ), 0, 0] : Fin 3 → ℕ) 2 = 0 from rfl, Nat.zero_add]; exact ha⟩

theorem mem_slot0 (σ : Fin 8) (i : S8x176x4096.Idx) : i ∈ (slotM 0 σ).view.set ↔ (i 0 : Fin 8) = σ := by
  rw [← slot_set0 σ (inb_slot0 σ)]
  show i ∈ ((View.whole cc0_scratch0).slice (Rect.unit (s := S8x176x4096) ![σ.val, 0, 0] S1x176x4096.size (inb_slot0 σ))).set ↔ _
  rw [View.set_slice_whole]
  exact slot_rows rfl rfl i
theorem mem_slot1 (σ : Fin 8) (i : S8x168x4096.Idx) : i ∈ (slotM 1 σ).view.set ↔ (i 0 : Fin 8) = σ := by
  rw [← slot_set1 σ (inb_slot1 σ)]
  show i ∈ ((View.whole cc0_scratch1).slice (Rect.unit (s := S8x168x4096) ![σ.val, 0, 0] S1x168x4096.size (inb_slot1 σ))).set ↔ _
  rw [View.set_slice_whole]
  exact slot_rows rfl rfl i
theorem mem_slot2 (σ : Fin 8) (i : S8x168x4096.Idx) : i ∈ (slotM 2 σ).view.set ↔ (i 0 : Fin 8) = σ := by
  rw [← slot_set2 σ (inb_slot1 σ)]
  show i ∈ ((View.whole cc0_scratch2).slice (Rect.unit (s := S8x168x4096) ![σ.val, 0, 0] S1x168x4096.size (inb_slot1 σ))).set ↔ _
  rw [View.set_slice_whole]
  exact slot_rows rfl rfl i

/-- A band's buffer, whole. -/
def bufAny (c : Dev nD) (r : Fin 3) : sProp 𝕄 := iprop(∃ f : Buf (Elt F) ((c : Thread nD τ).loc (bufRef r)), ((c : Thread nD τ).loc (bufRef r)) ↦{fullShare} f)

theorem buf0_eq (c : Dev nD) (f : Buf (Elt F) ((c : Thread nD τ).loc cc0_scratch0)) :
    (((c : Thread nD τ).loc cc0_scratch0) ↦{fullShare} f : sProp 𝕄) = bigSep Finset.univ fun σ => slotAt c 0 σ fullShare f :=
  whole_parts (ℓ := (c : Thread nD τ).loc cc0_scratch0) (fun σ => (slotM 0 σ).view.set) (fun i => (i 0 : Fin 8)) mem_slot0 _ f
theorem buf1_eq (c : Dev nD) (f : Buf (Elt F) ((c : Thread nD τ).loc cc0_scratch1)) :
    (((c : Thread nD τ).loc cc0_scratch1) ↦{fullShare} f : sProp 𝕄) = bigSep Finset.univ fun σ => slotAt c 1 σ fullShare f :=
  whole_parts (ℓ := (c : Thread nD τ).loc cc0_scratch1) (fun σ => (slotM 1 σ).view.set) (fun i => (i 0 : Fin 8)) mem_slot1 _ f
theorem buf2_eq (c : Dev nD) (f : Buf (Elt F) ((c : Thread nD τ).loc cc0_scratch2)) :
    (((c : Thread nD τ).loc cc0_scratch2) ↦{fullShare} f : sProp 𝕄) = bigSep Finset.univ fun σ => slotAt c 2 σ fullShare f :=
  whole_parts (ℓ := (c : Thread nD τ).loc cc0_scratch2) (fun σ => (slotM 2 σ).view.set) (fun i => (i 0 : Fin 8)) mem_slot2 _ f

theorem slotAt_any (c : Dev nD) (r : Fin 3) (σ : Fin 8) (f) : slotAt (F := F) c r σ fullShare f ⊢ slotAny c r σ := by
  unfold slotAny; iintro H; iexists f; iexact H

theorem slots_split (c : Dev nD) (r : Fin 3) : bufAny (F := F) c r ⊢ bigSep Finset.univ fun σ => slotAny c r σ := by
  unfold bufAny
  iintro ⟨%f, H⟩
  match r with
  | 0 => iapply ((Entails.of_eq (buf0_eq c f)).trans (bigSep_mono fun σ _ => slotAt_any c 0 σ f)); iexact H
  | 1 => iapply ((Entails.of_eq (buf1_eq c f)).trans (bigSep_mono fun σ _ => slotAt_any c 1 σ f)); iexact H
  | 2 => iapply ((Entails.of_eq (buf2_eq c f)).trans (bigSep_mono fun σ _ => slotAt_any c 2 σ f)); iexact H

theorem slots_join (c : Dev nD) (r : Fin 3) : (bigSep Finset.univ fun σ => slotPts m c r σ fullShare) ⊢ bufAny c r := by
  unfold bufAny
  iintro H
  match r with
  | 0 => iexists (gat m 0 0); iapply (Entails.of_eq (buf0_eq c (gat m 0 0)).symm); iexact H
  | 1 => iexists (gat m 1 0); iapply (Entails.of_eq (buf1_eq c (gat m 1 0)).symm); iexact H
  | 2 => iexists (gat m 2 0); iapply (Entails.of_eq (buf2_eq c (gat m 2 0)).symm); iexact H

/-- A device's slots by their difference from its own. -/
def flips (r : Fin 3) (c : Dev nD) : Fin 8 ≃ Fin 8 :=
  ⟨slotF r c, slotF r c, by revert r c; decide +kernel, by revert r c; decide +kernel⟩

/-- Those that are not its own are the ones that transfers fill. -/
theorem bag_flips (Φ : Fin 8 → sProp 𝕄) : bigSep Finset.univ Φ = iprop(Φ 0 ∗ bigSep Finset.univ fun k : Fin 7 => Φ (dstFlip k)) := by
  rw [show (Finset.univ : Finset (Fin 8)) = insert 0 (Finset.univ.map ⟨dstFlip, fun a b => dstFlip_inj⟩) from by decide, bigSep_insert (by decide), bigSep_map]
  rfl

theorem bag_three (Φ : Fin 3 → sProp 𝕄) : bigSep Finset.univ Φ = iprop(Φ 0 ∗ Φ 1 ∗ Φ 2) := bigSep_univ_eq_bigSepL [0, 1, 2] (by decide) (by decide) _
theorem bag_four (Φ : Fin 4 → sProp 𝕄) : bigSep Finset.univ Φ = iprop(Φ 0 ∗ Φ 1 ∗ Φ 2 ∗ Φ 3) := bigSep_univ_eq_bigSepL [0, 1, 2, 3] (by decide) (by decide) _

/-- A device's band buffers are its own slots and what it gives its neighbours. -/
theorem start_slots (c : Dev nD) : bigSep Finset.univ (bufAny (F := F) c)
    ⊢ iprop((slotAny c 0 (slotF 0 c 0) ∗ slotAny c 1 (slotF 1 c 0) ∗ slotAny c 2 (slotF 2 c 0)) ∗ give c 0 ∗ give c 1 ∗ give c 2) := by
  have h : bigSep Finset.univ (bufAny (F := F) c) ⊢ bigSep Finset.univ fun r => iprop(slotAny c r (slotF r c 0) ∗ bigSep Finset.univ fun k => slotAny c r (slotF r c (dstFlip k))) :=
    bigSep_mono fun r _ => (slots_split (F := F) c r).trans (Entails.of_eq
      ((bigSep_univ_equiv (flips r c) _).trans (bag_flips fun f => slotAny c r (slotF r c f))))
  iintro H
  ihave H := h $$ H
  ihave H := (Entails.of_eq (bag_pair (F := F) Finset.univ (fun r => slotAny c r (slotF r c 0)) fun r => bigSep Finset.univ fun k => slotAny c r (slotF r c (dstFlip k)))) $$ H
  icases H with ⟨H1, H2⟩
  isplitl [H1]
  · iapply (Entails.of_eq (bag_three fun r => slotAny c r (slotF r c 0))); iexact H1
  iapply (Entails.of_eq (bigSep_dirs (F := F) fun i => slotAny c i.1 (slotF i.1 c (dstFlip i.2))))
  iapply (Entails.of_eq (bigSep_univ_prod (fun i : Snd => slotAny (F := F) c i.1 (slotF i.1 c (dstFlip i.2)))).symm)
  iexact H2

theorem assoc_eq (P Q R : sProp 𝕄) : iprop((P ∗ Q) ∗ R) = iprop(P ∗ Q ∗ R) := by
  have h1 : iprop((P ∗ Q) ∗ R) ⊢ iprop(P ∗ Q ∗ R) := by
    iintro ⟨⟨HP, HQ⟩, HR⟩
    isplitl [HP]; · iexact HP
    isplitl [HQ] <;> iassumption
  have h2 : iprop(P ∗ Q ∗ R) ⊢ iprop((P ∗ Q) ∗ R) := by
    iintro ⟨HP, HQ, HR⟩
    isplitr [HR]; swap; · iexact HR
    isplitl [HP] <;> iassumption
  exact BI.Entails.antisymm h1 h2
theorem comm_eq (P Q : sProp 𝕄) : iprop(P ∗ Q) = iprop(Q ∗ P) := by
  have h (P Q : sProp 𝕄) : iprop(P ∗ Q) ⊢ iprop(Q ∗ P) := by
    iintro ⟨HP, HQ⟩
    isplitl [HQ] <;> iassumption
  exact BI.Entails.antisymm (h P Q) (h Q P)

/-- A bag sorted by a map. -/
theorem bag_fibers {I J : Type} [DecidableEq I] [DecidableEq J] [Fintype J] (g : I → J) (Φ : I → sProp 𝕄) (s : Finset I) :
    (bigSep Finset.univ fun j => bigSep (s.filter fun i => g i = j) Φ) = bigSep s Φ := by
  induction s using Finset.induction_on with
  | empty =>
    simp only [Finset.filter_empty, bigSep_empty]
    exact BI.Entails.antisymm (show (_ : sProp 𝕄) ⊢ _ by iintro -; iempintro) (BI.bigSep_of_persistent Finset.univ iprop(emp))
  | insert a s ha ih =>
    rw [bag_add ha, ← ih, bag_take (Finset.mem_univ (g a)), bag_take (Finset.mem_univ (g a)) (Φ := fun j => bigSep (s.filter fun i => g i = j) Φ)]
    rw [Finset.filter_insert, if_pos rfl, bag_add (fun h => ha (Finset.mem_filter.mp h).1)]
    rw [bigSep_congr (s := Finset.univ.erase (g a)) (Ψ := fun j => bigSep (s.filter fun i => g i = j) Φ) fun j hj => by
      rw [Finset.filter_insert, if_neg (Finset.ne_of_mem_erase hj).symm]]
    exact assoc_eq (F := F) _ _ _

/-- What comes back of the filled slots makes the band buffers whole again. -/
theorem end_slots (c : Dev nD) : iprop(bigSep Finset.univ (sendPay m c) ∗ bigSep Finset.univ (loadPay m c)) ⊢ bigSep Finset.univ (bufAny c) := by
  rw [bigSep_univ_prod (sendPay m c), bigSep_univ_prod (loadPay m c), ← bag_pair]
  refine bigSep_mono fun r _ => ?_
  show (_ : sProp 𝕄) ⊢ _
  refine BIBase.Entails.trans (Entails.of_eq ?_) (slots_join m c r)
  rw [bigSep_univ_equiv (flips r c) (fun σ => slotPts m c r σ fullShare), ← bag_fibers srcFlip (fun k => sendPay m c (r, k)), ← bag_pair]
  refine bigSep_congr fun f _ => ?_
  show _ = slotPts m c r (slotF r c f) fullShare
  rw [slot_deal m c r _ f]
  refine (comm_eq _ _).trans (congrArg _ ?_)
  exact bigSep_congr fun k hk => by
    have h : srcFlip k = f := (Finset.mem_filter.mp hk).2
    subst h; rfl

/-! ## The device's rows of `x`, band by band -/

theorem mem_xrows {off size : Fin 2 → ℕ} {h : ∀ a, off a + size a ≤ S512x4096.size a} {o n : ℕ} (ho : off = ![o, 0]) (hs : size = ![n, 4096]) (i : S512x4096.Idx) :
    i ∈ (Rect.unit (s := S512x4096) off size h).set ↔ (o ≤ (i 0).val ∧ (i 0).val < o + n) := by
  subst ho hs
  rw [Rect.mem_set_unit]
  refine ⟨fun hi => hi 0, fun hi a => ?_⟩
  match a with
  | 0 => exact hi
  | 1 => exact ⟨Nat.zero_le _, by rw [show (![o, 0] : Fin 2 → ℕ) 1 = 0 from rfl, Nat.zero_add]; exact (i 1).isLt⟩

/-- The rows of one band. -/
def bandSet : Fin 3 → Finset S512x4096.Idx
  | 0 => (lsrc 0).view.set
  | 1 => (lsrc 1).view.set
  | 2 => (lsrc 2).view.set
/-- The band of a row. -/
def bandOf (i : S512x4096.Idx) : Fin 3 := if (i 0).val < 176 then 0 else if (i 0).val < 344 then 1 else 2

theorem mem_band (l : Fin 3) (i : S512x4096.Idx) : i ∈ bandSet l ↔ bandOf i = l := by
  have h0 : (i 0).val < 512 := (i 0).isLt
  have e0 : i ∈ bandSet 0 ↔ _ := (Finset.ext_iff.mp (View.set_slice_whole main_arg0 (Rect.unit (s := S512x4096) ![0, 0] S176x4096.size inb_S512x4096_S176x4096_0_0)) i).trans (mem_xrows (o := 0) (n := 176) rfl rfl i)
  have e1 : i ∈ bandSet 1 ↔ _ := (Finset.ext_iff.mp (View.set_slice_whole main_arg0 (Rect.unit (s := S512x4096) ![176, 0] S168x4096.size inb_S512x4096_S168x4096_176_0)) i).trans (mem_xrows (o := 176) (n := 168) rfl rfl i)
  have e2 : i ∈ bandSet 2 ↔ _ := (Finset.ext_iff.mp (View.set_slice_whole main_arg0 (Rect.unit (s := S512x4096) ![344, 0] S168x4096.size inb_S512x4096_S168x4096_344_0)) i).trans (mem_xrows (o := 344) (n := 168) rfl rfl i)
  unfold bandOf
  match l with
  | 0 => rw [e0]; split_ifs with h1 h2 <;> simp <;> omega
  | 1 => rw [e1]; split_ifs with h1 h2 <;> simp <;> omega
  | 2 => rw [e2]; split_ifs with h1 h2 <;> simp <;> omega

theorem rows_eq (c : Dev nD) : (((c : Thread nD τ).loc main_arg0) ↦{fullShare} m ((c : Thread nD τ).loc main_arg0) : sProp 𝕄)
    = iprop(lsrcPts m c 0 ∗ lsrcPts m c 1 ∗ lsrcPts m c 2) := by
  rw [whole_parts (ℓ := (c : Thread nD τ).loc main_arg0) bandSet bandOf mem_band, bag_three]
  rfl

theorem cols_eq (c : Dev nD) : lsrcPts m c 3 = (((c : Thread nD τ).loc main_arg1) ↦{fullShare} m ((c : Thread nD τ).loc main_arg1)) := by
  unfold lsrcPts
  exact congrArg (fun S => ((c : Thread nD τ).loc main_arg1) ↦[S]{fullShare} m ((c : Thread nD τ).loc main_arg1)) (View.set_whole main_arg1)

/-- The destinations of the local copies are whole buffers. -/
abbrev ldstRef : Fin 4 → Ref sig .tc
  | 0 => cc0_scratch4
  | 1 => cc0_scratch5
  | 2 => cc0_scratch6
  | 3 => cc0_scratch7
theorem ldst_any (c : Dev nD) (l : Fin 4) : iprop(∃ f, ldstAt (F := F) c l f)
    = iprop(∃ f : Buf (Elt F) ((c : Thread nD τ).loc (ldstRef l)), ((c : Thread nD τ).loc (ldstRef l)) ↦{fullShare} f) := by
  unfold ldstAt
  match l with
  | 0 => exact congrArg (fun S => iprop(∃ f : Buf (Elt F) ((c : Thread nD τ).loc cc0_scratch4), ((c : Thread nD τ).loc cc0_scratch4) ↦[S]{fullShare} f)) (View.set_whole cc0_scratch4)
  | 1 => exact congrArg (fun S => iprop(∃ f : Buf (Elt F) ((c : Thread nD τ).loc cc0_scratch5), ((c : Thread nD τ).loc cc0_scratch5) ↦[S]{fullShare} f)) (View.set_whole cc0_scratch5)
  | 2 => exact congrArg (fun S => iprop(∃ f : Buf (Elt F) ((c : Thread nD τ).loc cc0_scratch6), ((c : Thread nD τ).loc cc0_scratch6) ↦[S]{fullShare} f)) (View.set_whole cc0_scratch6)
  | 3 => exact congrArg (fun S => iprop(∃ f : Buf (Elt F) ((c : Thread nD τ).loc cc0_scratch7), ((c : Thread nD τ).loc cc0_scratch7) ↦[S]{fullShare} f)) (View.set_whole cc0_scratch7)

end Cert.BandGather

end
-- ==== Proof.Main.lean ====
/-
The launch: the kernel on every device, from any memory.
-/
module

public import proofs.«01_k».proof.Proof.Whole
public import proofs.«01_k».proof.Proof.Buffers
public import proofs.«01_k».proof.Proof.Gen.KernelIdeal.Points
public import Idealize.ShloMosaic.Lib.Quiescent
public import Idealize.ShloMosaic.Lib.Pipeline.ValueKit
public import Idealize.ShloMosaic.Lib.Pipeline.CollectiveSegs

@[expose] public section

noncomputable section

namespace Cert.BandGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The only point of the grid. -/
def t₀ : Fin cfg0.N := t0_0
theorem fin_N (t : Fin cfg0.N) : t = t₀ := fin_N0 t

/-- The scales as the pipeline stages them. -/
def stX (c : Dev nD) : S1.Idx → Elt F .f32 := (win0_0.blk t0_0).view.read (Elt F) (m ((c : Thread nD τ).loc main_arg2))
def stW (c : Dev nD) : S1.Idx → Elt F .f32 := (win0_1.blk t0_0).view.read (Elt F) (m ((c : Thread nD τ).loc main_arg3))
/-- The kernel's result on device `c`. -/
def result (c : Dev nD) : S4096x256.Idx → Elt F .f32 := outAt m (scOf (stX m c) (stW m c)) c

/-- The arrays the pipeline does not stage. -/
def operands (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))
/-- The kernel's own buffers, at some contents. -/
def ownBufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))

/-- What a device's kernel starts from, its own buffers apart; -/
def start (c : Dev nD) : sProp 𝕄 := iprop(G' m c ∗ Pipeline.launchCred owed0 c ∗ levAts L lv ∗ operands m c)
/-- with them; -/
def Φ₀ (c : Dev nD) : sProp 𝕄 := iprop(start m c ∗ ownBufs c)
/-- what it leaves of the machine's; -/
def leaves (c : Dev nD) : sProp 𝕄 := iprop(semVal (barCell c) 0 ∗ operands m c)
/-- and all it leaves. -/
def Φ₁ (c : Dev nD) : sProp 𝕄 :=
  iprop(leaves m c ∗ ((bigSep Finset.univ fun i : Snd => semVal (sendCell i c) 0) ∗ (bigSep Finset.univ fun i : Snd => semVal (recvCell i c) 0)
    ∗ bigSep Finset.univ fun l : Fin 4 => semVal (locCell l c) 0) ∗ ownBufs c)

/-- The pipeline's data: what each window stages, and what the kernel holds before and after. -/
def dats (_ : Fin 1) (c : Dev nD) : Dat τ (Elt F) Unit ℕ UU ℕ cfg0 c where
  A w := m ((cfg0.win w).arr.view.loc (c : Thread nD τ))
  after w _ := match w with
    | ⟨0, _⟩ => stX m c
    | ⟨1, _⟩ => stW m c
    | ⟨2, _⟩ => result m c
  Φ t := match t with
    | ⟨0, _⟩ => Φ₀ m c
    | ⟨_ + 1, _⟩ => Φ₁ m c
  q _ := fullShare
  owed t := match t with
    | ⟨0, _⟩ => owed0 c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is handed at the point, -/
def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
/-- and what it hands back. -/
def bodyPost (c : Dev nD) : sProp 𝕄 :=
  iprop(Φ₁ m c ∗ (dats m 0 c).owesAt () t₀.succ ∗ stg c cc0_stg0_0 (stX m c) ∗ stg c cc0_stg1_0 (stW m c) ∗ stg c cc0_stg2_0 (result m c))

/-- A local copy's kit, from its rights and its two buffers. -/
theorem loc_kit (c : Dev nD) (l : Fin 4) : iprop((dutyTok ER (locCell l c) 0 0 ∗ atPos ER (locCell l c) 0 ∅ 0) ∗ lsrcPts m c l
    ∗ ∃ f : Buf (Elt F) ((c : Thread nD τ).loc (ldstRef l)), ((c : Thread nD τ).loc (ldstRef l)) ↦{fullShare} f) ⊢ locKit m c l := by
  unfold locKit
  rw [ldst_any]
  iintro ⟨⟨H1, H2⟩, H3, H4⟩
  isplitl [H1]; · iexact H1
  isplitl [H2]; · iexact H2
  isplitl [H3] <;> iassumption

/-- What the body is handed is what the kernel starts with. -/
theorem enter (c : Dev nD) : bodyPre m c ⊢ iprop(∃ K, bodyIn m K c (stX m c) (stW m c)) := by
  unfold bodyPre Φ₀ start G' operands ownBufs
  iintro ⟨⟨⟨⟨%K, HR, Hpl, Hpa⟩, Hcr, Hlev, Hx, Hw⟩, Hb0, Hb1, Hb2, Hb3, Hb4, Hb5, Hb6, Hb7⟩, Ho, ⟨%d0, %g0, %hg0, H0⟩, ⟨%d1, %g1, %hg1, H1⟩, ⟨%d2, %g2, %hg2, H2⟩⟩
  have h0 : g0 = stX m c := by rw [hg0]; unfold Dat.before; rw [if_pos (fetch0_0 t₀)]; rfl
  have h1 : g1 = stW m c := by rw [hg1]; unfold Dat.before; rw [if_pos (fetch0_1 t₀)]; rfl
  subst h0 h1
  unfold Dat.owesAt Pipeline.owesWithin
  icases Ho with ⟨%W, %hW, HO⟩
  rw [show (dats m 0 c).owed t₀.castSucc = owed0 c from rfl]
  ihave HG := (start_ghost (F := F) c) $$ [Hpl Hpa Hcr]
  · isplitl [Hpl]; · iexact Hpl
    isplitl [Hpa] <;> iassumption
  icases HG with ⟨⟨Ht0, Ht1, Ht2⟩, HB, HS, HV, HL⟩
  ihave HL := (Entails.of_eq (bag_four (F := F) _)) $$ HL
  icases HL with ⟨HL0, HL1, HL2, HL3⟩
  ihave Hsl := (start_slots (F := F) c) $$ [Hb0 Hb1 Hb2]
  · rw [bag_three]
    unfold bufAny
    isplitl [Hb0]; · iexact Hb0
    isplitl [Hb1] <;> iassumption
  icases Hsl with ⟨Hsl, Hg0, Hg1, Hg2⟩
  ihave Hx := (Entails.of_eq (rows_eq m c)) $$ Hx
  icases Hx with ⟨Hx0, Hx1, Hx2⟩
  ihave Hw := (Entails.of_eq (cols_eq m c).symm) $$ Hw
  iexists K
  unfold bodyIn ctx sigKit scPts
  isplitl [HR Hlev]; · isplitl [HR] <;> iassumption
  isplitl [HO]; · rw [owing_eq]; iexists W; iexact HO
  isplitl [Ht0 Ht1 Ht2 Hg0 Hg1 Hg2]
  · isplitl [Ht0 Hg0]; · isplitl [Ht0] <;> iassumption
    isplitl [Ht1 Hg1]; · isplitl [Ht1] <;> iassumption
    isplitl [Ht2] <;> iassumption
  isplitl [HB]; · iexact HB
  isplitl [HS]; · iexact HS
  isplitl [HV]; · iexact HV
  isplitl [HL0 HL1 HL2 HL3 Hx0 Hx1 Hx2 Hw Hb4 Hb5 Hb6 Hb7]
  · isplitl [HL0 Hx0 Hb4]
    · iapply (loc_kit m c 0)
      isplitl [HL0]; · iexact HL0
      isplitl [Hx0] <;> iassumption
    isplitl [HL1 Hx1 Hb5]
    · iapply (loc_kit m c 1)
      isplitl [HL1]; · iexact HL1
      isplitl [Hx1] <;> iassumption
    isplitl [HL2 Hx2 Hb6]
    · iapply (loc_kit m c 2)
      isplitl [HL2]; · iexact HL2
      isplitl [Hx2] <;> iassumption
    iapply (loc_kit m c 3)
    isplitl [HL3]; · iexact HL3
    isplitl [Hw] <;> iassumption
  isplitl [H0 H1]; · isplitl [H0] <;> iassumption
  isplitl [Hsl]; · iexact Hsl
  isplitl [Hb3]; · iexact Hb3
  iexists g2; iexact H2

/-- A finished local copy's destination, at some contents. -/
theorem loc_left (c : Dev nD) (l : Fin 4) : locDone m c l ⊢ iprop(semVal (locCell l c) 0
    ∗ (∃ f : Buf (Elt F) ((c : Thread nD τ).loc (ldstRef l)), ((c : Thread nD τ).loc (ldstRef l)) ↦{fullShare} f) ∗ lsrcPts m c l) := by
  unfold locDone
  rw [← ldst_any]
  iintro ⟨H1, H2, H3⟩
  isplitl [H1]; · iexact H1
  isplitl [H2]; · iexists _; iexact H2
  iexact H3

/-- What the kernel leaves is what the body hands back. -/
theorem leave (K : Dev nD × CIx → ℕ) (c : Dev nD) : bodyOut m K c (stX m c) (stW m c) ⊢ bodyPost m c := by
  unfold bodyOut Bk early scPts
  rw [left_none, gone_all, owed_end, owing_eq, bag_pair]
  iintro ⟨⟨-, ⟨%W, HO⟩, -, ⟨HzS, HpS⟩, HzV, HpL⟩, Hw8, Hout, HzB, ⟨H0, H1⟩, Hl0, Hl1, Hl2, Hl3⟩
  ihave Hl0 := (loc_left m c 0) $$ Hl0
  ihave Hl1 := (loc_left m c 1) $$ Hl1
  ihave Hl2 := (loc_left m c 2) $$ Hl2
  ihave Hl3 := (loc_left m c 3) $$ Hl3
  icases Hl0 with ⟨Hz0, Hd0, Hx0⟩
  icases Hl1 with ⟨Hz1, Hd1, Hx1⟩
  icases Hl2 with ⟨Hz2, Hd2, Hx2⟩
  icases Hl3 with ⟨Hz3, Hd3, Hx3⟩
  ihave Hb := (end_slots m c) $$ [HpS HpL]
  · isplitl [HpS] <;> iassumption
  ihave Hb := (Entails.of_eq (bag_three (F := F) _)) $$ Hb
  unfold bufAny
  icases Hb with ⟨Hb0, Hb1, Hb2⟩
  ihave Hout := (outPts_all m _ c) $$ Hout
  unfold bodyPost Φ₁ leaves operands ownBufs Dat.owesAt Pipeline.owesWithin
  rw [show (dats m 0 c).owed t₀.succ = 0 from rfl, rows_eq m c, ← cols_eq m c, bag_four]
  isplitl [HzS HzV Hz0 Hz1 Hz2 Hz3 HzB Hx0 Hx1 Hx2 Hx3 Hb0 Hb1 Hb2 Hw8 Hd0 Hd1 Hd2 Hd3]
  · isplitl [HzB Hx0 Hx1 Hx2 Hx3]
    · isplitl [HzB]; · iexact HzB
      isplitl [Hx0 Hx1 Hx2]
      · isplitl [Hx0]; · iexact Hx0
        isplitl [Hx1] <;> iassumption
      iexact Hx3
    isplitl [HzS HzV Hz0 Hz1 Hz2 Hz3]
    · isplitl [HzS]; · iexact HzS
      isplitl [HzV]; · iexact HzV
      isplitl [Hz0]; · iexact Hz0
      isplitl [Hz1]; · iexact Hz1
      isplitl [Hz2] <;> iassumption
    isplitl [Hb0]; · iexact Hb0
    isplitl [Hb1]; · iexact Hb1
    isplitl [Hb2]; · iexact Hb2
    isplitl [Hw8]; · unfold wPts; iexists _; iexact Hw8
    isplitl [Hd0]; · iexact Hd0
    isplitl [Hd1]; · iexact Hd1
    isplitl [Hd2] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact Hout

/-- The body runs from what it is handed to what it hands back. -/
theorem sound_body (c : Dev nD) : bodyPre m c ⊢ run c (atBufs (cc0_body (F := F))) fun _ => bodyPost m c := by
  refine BI.Entails.trans (enter m c) ?_
  show (_ : sProp 𝕄) ⊢ _
  iintro ⟨%K, H⟩
  have h : bodyIn m K c (stX m c) (stW m c) ⊢ run c (atBufs (cc0_body (F := F))) fun _ => bodyPost m c :=
    BI.Entails.trans (run_body m K c (stX m c) (stW m c)) (wp_mono _ _ _ fun _ => leave m K c)
  ihave H := h $$ H
  iexact H

set_option maxRecDepth 100000 in
/-- The pipeline's obligation on device `c`. -/
theorem body_obligation (c : Dev nD) : BodyObligation (dats m 0 c) (defs₀ (F := F)) 𝒱₀ () Set.univ := fun t => by
  rw [fin_N t]
  rw [bigSep_W, bigSep_W]
  simp only [owns_whole_eq]
  show bodyPre m c ⊢ run c (bodyAt0 t₀) fun _ => bodyPost m c
  exact sound_body m c

/-! ## The launch -/

theorem share_eq (c : Dev nD) (w : Fin cfg0.W) : (dats m 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  rw [Pipeline.unscopedRestP_none, unscopedRest0_eq]
  iintro ⟨Hr, Hlev, Hcr, -, HG⟩
  imodintro
  unfold start operands
  isplitl
  · isplitl [HG]; · iexact HG
    isplitl [Hcr]; · iexact Hcr
    isplitl [Hlev]; · iexact Hlev
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ ownBufs
  iintro ⟨Hs, -, Hr⟩
  isplitl [Hs] <;> iassumption

theorem phi1_exit (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = Φ₁ m c from rfl, scopedRest0_eq, ownSems0_eq]
  unfold Φ₁ ownBufs
  iintro H
  iexact H

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read off a device's final memory: the operands unchanged, its barrier's counter zero. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) : iprop(leaves m c ∗ emp ∗ SI s') ⊢ |={Set.univ}=> iprop(⌜QY m c s'.mem⌝ ∗ SI s') := by
  unfold leaves operands
  rw [← unscopedSems0_eq]
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hz, HSI⟩
  · isplitl [Hu] <;> iassumption
  imodintro
  isplitr; · ipureintro; exact ⟨⟨Buf.eq_of_forall_mem_univ hx, Buf.eq_of_forall_mem_univ hw⟩, hz⟩
  iexact HSI

/-- The contents of each window's array after the run. -/
def finalA (c : Dev nD) (w : Fin cfg0.W) : Buf (Elt F) ((cfg0.win w).arr.view.loc (c : Thread nD τ)) := (dats m 0 c).arrAt w cfg0.N

set_option maxRecDepth 8000 in
/-- From any memory with zero counters, the kernel on all eight devices terminates; every final state has each device's windowed arrays at `finalA`, its two
    operands unchanged and every counter zero. -/
theorem run_windows : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ QY m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := leaves m) (Z := fun _ => iprop(emp))
    (hX := start_intro m ρ) (hin := phi0_intro m) (hout := phi1_exit m)
    (QY := QY m) (hY := read_end m)
    (hQ := fun _ h hs => ⟨fun c => ⟨fun w => (h c).1 w, (h c).2.2⟩, sem_eq_zero hs fun c => (h c).2.2.2⟩)

/-- The result's array ends at the kernel's result. -/
theorem finalA_out (c : Dev nD) : finalA m c (2 : Fin 3) = result m c :=
  (dats m 0 c).arrAt_eq_of_after_last (2 : Fin 3) t₀ (by decide) (result m c) fun j => rfl
/-- The scales' arrays end as they were. -/
theorem finalA_sx (c : Dev nD) : finalA m c (0 : Fin 3) = m ((c : Thread nD τ).loc main_arg2) := (dats m 0 c).arrAt_in (0 : Fin 3) rfl _
theorem finalA_sw (c : Dev nD) : finalA m c (1 : Fin 3) = m ((c : Thread nD τ).loc main_arg3) := (dats m 0 c).arrAt_in (1 : Fin 3) rfl _

/-- The staged scales are the arrays' contents. -/
theorem stX_eq (c : Dev nD) : stX m c = m ((c : Thread nD τ).loc main_arg2) := by
  funext i
  exact congrArg (m ((c : Thread nD τ).loc main_arg2)) (idx_one _ _)
theorem stW_eq (c : Dev nD) : stW m c = m ((c : Thread nD τ).loc main_arg3) := by
  funext i
  exact congrArg (m ((c : Thread nD τ).loc main_arg3)) (idx_one _ _)

/-- From any memory with zero counters, the kernel on all eight devices terminates; every final state has each device's result at `result`, its four arguments
    unchanged and every counter zero. -/
theorem run_main : θ_run defs (onTc (τ := τ) (main (F := F))) ⟨m, fun _ => 0, ρ⟩ (fun r =>
    (∀ c : Dev nD, r.2.mem ((c : Thread nD τ).loc main_v1) = result m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run defs _ _).mono (fun _ h => ⟨fun c => ⟨((h.1 c).1 (2 : Fin 3)).trans (finalA_out m c), (h.1 c).2.1.1, (h.1 c).2.1.2,
    ((h.1 c).1 (0 : Fin 3)).trans (finalA_sx m c), ((h.1 c).1 (1 : Fin 3)).trans (finalA_sw m c)⟩, h.2⟩) (run_windows m ρ)

end Cert.BandGather

end
-- ==== Proof.Frames.lean ====
/-
The two programs printed from the kernel are one, so one run serves both.
-/
module

public import proofs.«01_k».proof.Defs
public import proofs.«01_k».proof.Proof.Main
public import proofs.«01_k».proof.Proof.Gen.Kernel
public import Idealize.ShloMosaic.Lib.Tactic.ProgEq

@[expose] public section

noncomputable section

namespace Cert.BandGather

open Idealize.ShloMosaic Idealize.ShloMosaic.TcCoe Idealize.SL.Sem

variable {F : FTy → Type} [FloatOps F]

/-- The two programs have the same bodies, -/
theorem defs_same : @Cert.Kernel.defs F _ Cert.Kernel.Gen.facts = @Cert.KernelIdeal.defs F _ Cert.KernelIdeal.Gen.facts := by sl_kernel_rfl
/-- and the same main. -/
theorem main_same : @Cert.Kernel.main F _ = @Cert.KernelIdeal.main F _ := by sl_kernel_rfl

/-- The kernel as compiled terminates with its arguments unchanged and every counter zero; -/
theorem frame_kernel : Cert.quiescent_Kernel (hKernel := Cert.Kernel.Gen.facts) := by
  intro m g _
  rw [defs_same, main_same]
  exact (θ_run Cert.KernelIdeal.defs _ _).mono (fun _ h => ⟨fun c => (h.1 c).2, h.2⟩) (run_main (F := Bits) m g)

/-- and so does its idealization. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (run_main (F := Ideal) m g)

end Cert.BandGather

end
-- ==== Proof.Value.lean ====
/-
The kernel's result against the reference's, over the extended reals.
-/
module

public import proofs.«01_k».proof.Proof.Frames
public import proofs.«01_k».proof.Proof.Gen.ReferenceIdeal.Run
public import Idealize.ShloMosaic.Lib.Pointwise
public import Idealize.ShloMosaic.Lib.Quiescent

@[expose] public section

noncomputable section

namespace Cert.BandGather

open Cert.KernelIdeal Cert.KernelIdeal.Gen Idealize.ShloMosaic Idealize.ShloMosaic.TcCoe Idealize.SL.Sem

/-! ## One piece of the result -/

/-- A piece of 176 rows: at row `t` and column `j`, the dot product of the rows' and the weight's entries, scaled. -/
theorem piece0 (sc : Ideal .f32) (v : FVec Ideal S176x4096 .f32) (w : FVec Ideal S4096x256 .f32) (x : S176x256.Idx) :
    k0_pay10 (F := Ideal) sc (k0_pay2 (F := Ideal) v) (k0_pay5 (F := Ideal) w) x = (∑ k : Fin 4096, v (ix2 (x 0) k) * w (ix2 k (x 1))) * sc := by
  pointwise [k0_pay10, k0_pay2, k0_pay5]

/-- A piece of 168 rows likewise, the middle band's -/
theorem piece1 (sc : Ideal .f32) (v : FVec Ideal S168x4096 .f32) (w : FVec Ideal S4096x256 .f32) (x : S168x256.Idx) :
    k0_pay8 (F := Ideal) sc (k0_pay3 (F := Ideal) v) (k0_pay5 (F := Ideal) w) x = (∑ k : Fin 4096, v (ix2 (x 0) k) * w (ix2 k (x 1))) * sc := by
  pointwise [k0_pay8, k0_pay3, k0_pay5]

/-- and the last band's. -/
theorem piece2 (sc : Ideal .f32) (v : FVec Ideal S168x4096 .f32) (w : FVec Ideal S4096x256 .f32) (x : S168x256.Idx) :
    k0_pay9 (F := Ideal) sc (k0_pay4 (F := Ideal) v) (k0_pay5 (F := Ideal) w) x = (∑ k : Fin 4096, v (ix2 (x 0) k) * w (ix2 k (x 1))) * sc := by
  pointwise [k0_pay9, k0_pay4, k0_pay5]

/-! ## The reference -/

/-- What the reference computes. -/
abbrev refTerm (X : FVec Ideal Cert.ReferenceIdeal.S4096x4096 .f32) (W : FVec Ideal Cert.ReferenceIdeal.S4096x2048 .f32)
    (sx sw : FVec Ideal Cert.ReferenceIdeal.S1 .f32) : FVec Ideal Cert.ReferenceIdeal.S4096x2048 .f32 :=
  mulf (Host.dotGeneral Cert.ReferenceIdeal.dot_S4096x4096_S4096x2048_S4096x2048_1_0_0_1_n_n none X W)
    (broadcastInDim Cert.ReferenceIdeal.S4096x2048 ![0, 1] Cert.ReferenceIdeal.Facts₀.bcast_S1x1_S4096x2048_0_1
      (broadcastInDim Cert.ReferenceIdeal.S1x1 ![1] Cert.ReferenceIdeal.Facts₀.bcast_S1_S1x1_1 (mulf sx sw)))

/-- At row `j 0` and column `j 1`, the dot product of the whole operands' entries, scaled. -/
theorem ref_apply (X : FVec Ideal Cert.ReferenceIdeal.S4096x4096 .f32) (W : FVec Ideal Cert.ReferenceIdeal.S4096x2048 .f32)
    (sx sw : FVec Ideal Cert.ReferenceIdeal.S1 .f32) (j : Cert.ReferenceIdeal.S4096x2048.Idx) :
    refTerm X W sx sw j = (∑ k : Fin 4096, X (ix2 (j 0) k) * W (ix2 k (j 1))) * (sx (ix1 0) * sw (ix1 0)) := by
  pointwise [refTerm]

/-! ## The devices' parts -/

section Parts
variable (m : (ℓ : Loc nD τ sig) → Buf (Elt Ideal) ℓ)
variable (X : FVec Ideal Cert.ReferenceIdeal.S4096x4096 .f32) (W : FVec Ideal Cert.ReferenceIdeal.S4096x2048 .f32)

/-- An entry of the rows that device `o` holds, at row `a` of its 512. -/
theorem row_entry (o : Dev nD) (hx : m ((o : Thread nD τ).loc main_arg0) = Layout.block ⟨2, ![512, 4096]⟩ ⟨2, ![4096, 4096]⟩ 0 8 o X)
    (a : S512x4096.Idx) (I : Fin 4096) (k : Fin 4096) (hI : I.val = o.val * 512 + (a 0).val) (hk : k.val = (a 1).val) :
    m ((o : Thread nD τ).loc main_arg0) a = X (ix2 I k) := by
  rw [hx, Layout.block_apply]
  congr 1; funext b
  match b with
  | ⟨0, _⟩ => exact Fin.ext hI.symm
  | ⟨1, _⟩ => exact Fin.ext hk.symm

/-- An entry of the columns of the weight that device `c` holds. -/
theorem col_entry (c : Dev nD) (hw : m ((c : Thread nD τ).loc main_arg1) = Layout.block ⟨2, ![4096, 256]⟩ ⟨2, ![4096, 2048]⟩ 1 8 c W)
    (a : S4096x256.Idx) (k : Fin 4096) (J : Fin 2048) (hk : k.val = (a 0).val) (hJ : J.val = c.val * 256 + (a 1).val) :
    m ((c : Thread nD τ).loc main_arg1) a = W (ix2 k J) := by
  rw [hw, Layout.block_apply]
  congr 1; funext b
  match b with
  | ⟨0, _⟩ => exact Fin.ext hk.symm
  | ⟨1, _⟩ => exact Fin.ext hJ.symm

variable (hx : ∀ o : Dev nD, m ((o : Thread nD τ).loc main_arg0) = Layout.block ⟨2, ![512, 4096]⟩ ⟨2, ![4096, 4096]⟩ 0 8 o X)
variable (hw : ∀ c : Dev nD, m ((c : Thread nD τ).loc main_arg1) = Layout.block ⟨2, ![4096, 256]⟩ ⟨2, ![4096, 2048]⟩ 1 8 c W)

include hx hw in
/-- Row `t` of band `r`'s piece from device `o`, at column `j`, is the whole product's row `outRow r o + t` at the device's column `j`, scaled. -/
theorem band_entry (sc : Ideal .f32) (c o : Dev nD) (r : Fin 3) (t : ℕ) (ht : t < osz r) (j : Fin 256) (I : Fin 4096) (J : Fin 2048)
    (hI : I.val = outRow r o + t) (hJ : J.val = c.val * 256 + j.val) :
    bandVal (F := Ideal) sc r (xrow m o r) (w8 m c) (oidx r t ht j) = (∑ k : Fin 4096, X (ix2 I k) * W (ix2 k J)) * sc := by
  have hW : ∀ k : Fin 4096, lval m c 3 (ix2 k j) = W (ix2 k J) := fun k => col_entry m W c (hw c) _ k J rfl hJ
  have hO : outRow r o = o.val * 512 + (![0, 176, 344] : Fin 3 → ℕ) r := rfl
  match r with
  | 0 =>
    refine (piece0 sc (lval m o 0) (lval m c 3) _).trans (congrArg (· * sc) (Finset.sum_congr rfl fun k _ => congrArg₂ (· * ·) ?_ (hW k)))
    exact row_entry m X o (hx o) _ I k (by rw [hI, hO]; show _ = o.val * 512 + (0 + 1 * t); dsimp; omega) (by show k.val = 0 + 1 * k.val; omega)
  | 1 =>
    refine (piece1 sc (lval m o 1) (lval m c 3) _).trans (congrArg (· * sc) (Finset.sum_congr rfl fun k _ => congrArg₂ (· * ·) ?_ (hW k)))
    exact row_entry m X o (hx o) _ I k (by rw [hI, hO]; show _ = o.val * 512 + (176 + 1 * t); dsimp; omega) (by show k.val = 0 + 1 * k.val; omega)
  | 2 =>
    refine (piece2 sc (lval m o 2) (lval m c 3) _).trans (congrArg (· * sc) (Finset.sum_congr rfl fun k _ => congrArg₂ (· * ·) ?_ (hW k)))
    exact row_entry m X o (hx o) _ I k (by rw [hI, hO]; show _ = o.val * 512 + (344 + 1 * t); dsimp; omega) (by show k.val = 0 + 1 * k.val; omega)

/-- A row of the result, as its place in its piece. -/
theorem row_split (i : S4096x256.Idx) : (i 0).val = outRow (bandR i) (bandO i) + ((i 0).val - outRow (bandR i) (bandO i)) := by
  have h := ((band_iff (bandR i) (bandO i) i).mpr ⟨rfl, rfl⟩).1
  omega

include hx hw in
/-- A device's result is its columns of the reference's. -/
theorem result_eq (sx sw : FVec Ideal Cert.ReferenceIdeal.S1 .f32) (c : Dev nD)
    (hsx : m ((c : Thread nD τ).loc main_arg2) = sx) (hsw : m ((c : Thread nD τ).loc main_arg3) = sw) :
    result m c = Layout.block ⟨2, ![4096, 256]⟩ ⟨2, ![4096, 2048]⟩ 1 8 c (refTerm X W sx sw) := by
  funext i
  rw [Layout.block_apply, ref_apply]
  unfold result
  rw [stX_eq, stW_eq, hsx, hsw]
  have hJ : c.val * 256 + (i 1).val < 2048 := by
    have h1 : (i 1).val < 256 := (i 1).isLt
    have h2 : c.val < 8 := c.isLt
    omega
  refine (band_entry m X W hx hw _ c (bandO i) (bandR i) _ (row_lt i) (i 1) (i 0)
    ⟨c.val * 256 + (i 1).val, hJ⟩ (row_split i) rfl).trans ?_
  refine congrArg₂ (· * ·) rfl ?_
  show sx one0 * sw one0 = _
  rw [idx_one one0 (ix1 0)]

end Parts

/-! ## The claims -/

/-- The reference terminates with its arguments unchanged. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, each device's result is its columns of the reference's. -/
theorem algebraic : Cert.algebraic_KernelIdeal_ReferenceIdeal (hKernelIdeal := Cert.KernelIdeal.Gen.facts)
    (hReferenceIdeal := Cert.ReferenceIdeal.Gen.facts) := fun m g m' g' _ h =>
  ⟨_, (θ_run Cert.KernelIdeal.defs _ _).mono
      (fun _ hr c => ⟨((hr.1 c).1).trans (result_eq m _ _ (fun o => (h o).1) (fun c => (h c).2.1) _ _ c (h c).2.2.1 (h c).2.2.2), (hr.1 c).2⟩)
      (run_main (F := Ideal) m g),
    (θ_run Cert.ReferenceIdeal.defs _ _).mono (fun _ hr => hr 0) (Cert.ReferenceIdeal.Value.run (F := Ideal) m' g')⟩

end Cert.BandGather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  Cert.BandGather.frame_kernel, Cert.BandGather.frame_ideal, Cert.BandGather.frame_reference, trivial, Cert.BandGather.algebraic⟩

end Cert.Proof

end
